-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x4096 : Shape := ⟨3, ![16, 3, 4096]⟩
abbrev S16x3x1024 : Shape := ⟨3, ![16, 3, 1024]⟩
abbrev S16x128x4096 : Shape := ⟨3, ![16, 128, 4096]⟩
abbrev S16x256x1024 : Shape := ⟨3, ![16, 256, 1024]⟩
abbrev S16x1024x4 : Shape := ⟨3, ![16, 1024, 4]⟩
abbrev S256x388 : Shape := ⟨2, ![256, 388]⟩
abbrev S256 : Shape := ⟨1, ![256]⟩
abbrev S256x256 : Shape := ⟨2, ![256, 256]⟩
abbrev S_ : Shape := ⟨0, ![]⟩

class Facts : Prop where
  bcast_S_S16x3x4096 : S_.BroadcastsInDim S16x3x4096 (![] : Fin 0 → Fin S16x3x4096.rank)
  reducesTo_S16x3x4096_S_d0_1_2 : S16x3x4096.ReducesTo [0, 1, 2] S_
  h_S_ : 0 < S_.numel
  bcast_S_S16x3x1024 : S_.BroadcastsInDim S16x3x1024 (![] : Fin 0 → Fin S16x3x1024.rank)
  reducesTo_S16x3x1024_S_d0_1_2 : S16x3x1024.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x3x4096 .f32) (main_arg1 : FVec F S16x3x1024 .f32) (main_arg2 : FVec F S16x128x4096 .f32) (main_arg3 : FVec F S16x256x1024 .f32) (main_arg4 : FVec F S16x1024x4 .f32) (main_arg5 : FVec F S256x388 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) : IVec S_ 1 :=
  let main_v0 : FVec F S16x3x4096 .f32 := Host.absf main_arg0
  let main_cst : FVec F S_ .f32 := constant S_ .f32 0x7F800000#32
  let main_v1 : FVec F S16x3x4096 .f32 := broadcastInDim S16x3x4096 ![] bcast_S_S16x3x4096 main_cst
  let main_v2 : IVec S16x3x4096 1 := cmpf .olt main_v0 main_v1
  let main_c : IVec S_ 1 := constantI S_ 1 1#1
  let main_v3 : IVec S_ 1 := (fun x v => Host.reduce IntOp.andi x v reducesTo_S16x3x4096_S_d0_1_2 h_S_) main_v2 main_c
  let main_v4 : FVec F S16x3x1024 .f32 := Host.absf main_arg1
  let main_cst_0 : FVec F S_ .f32 := constant S_ .f32 0x7F800000#32
  let main_v5 : FVec F S16x3x1024 .f32 := broadcastInDim S16x3x1024 ![] bcast_S_S16x3x1024 main_cst_0
  let main_v6 : IVec S16x3x1024 1 := cmpf .olt main_v4 main_v5
  let main_c_1 : IVec S_ 1 := constantI S_ 1 1#1
  let main_v7 : IVec S_ 1 := (fun x v => Host.reduce IntOp.andi x v reducesTo_S16x3x1024_S_d0_1_2 h_S_) main_v6 main_c_1
  let main_v8 : IVec S_ 1 := andi main_v3 main_v7
  let main_v9 : FVec F S256 .f32 := Host.absf main_arg7
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg11
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x3x4096 : Shape := ⟨3, ![16, 3, 4096]⟩
abbrev S16x3x1024 : Shape := ⟨3, ![16, 3, 1024]⟩
abbrev S16x128x4096 : Shape := ⟨3, ![16, 128, 4096]⟩
abbrev S16x256x1024 : Shape := ⟨3, ![16, 256, 1024]⟩
abbrev S16x1024x4 : Shape := ⟨3, ![16, 1024, 4]⟩
abbrev S256x388 : Shape := ⟨2, ![256, 388]⟩
abbrev S256 : Shape := ⟨1, ![256]⟩
abbrev S256x256 : Shape := ⟨2, ![256, 256]⟩
abbrev S16x4096x3 : Shape := ⟨3, ![16, 4096, 3]⟩
abbrev S16x4096x128 : Shape := ⟨3, ![16, 4096, 128]⟩
abbrev S16x1024x256 : Shape := ⟨3, ![16, 1024, 256]⟩
abbrev S16x4x1024 : Shape := ⟨3, ![16, 4, 1024]⟩
abbrev S388x256 : Shape := ⟨2, ![388, 256]⟩
abbrev S1x256 : Shape := ⟨2, ![1, 256]⟩
abbrev S16x4096x256 : Shape := ⟨3, ![16, 4096, 256]⟩
abbrev S16x8x8x256 : Shape := ⟨4, ![16, 8, 8, 256]⟩
abbrev S1x512x3 : Shape := ⟨3, ![1, 512, 3]⟩
abbrev S1x3x1024 : Shape := ⟨3, ![1, 3, 1024]⟩
abbrev S1x4x1024 : Shape := ⟨3, ![1, 4, 1024]⟩
abbrev S1x1024x4 : Shape := ⟨3, ![1, 1024, 4]⟩
abbrev S1x1024x256 : Shape := ⟨3, ![1, 1024, 256]⟩
abbrev S1x512x128 : Shape := ⟨3, ![1, 512, 128]⟩
abbrev S1x512x256 : Shape := ⟨3, ![1, 512, 256]⟩
abbrev S1x1x8x256 : Shape := ⟨4, ![1, 1, 8, 256]⟩
abbrev S512x3 : Shape := ⟨2, ![512, 3]⟩
abbrev S3x1024 : Shape := ⟨2, ![3, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S4x1024 : Shape := ⟨2, ![4, 1024]⟩
abbrev S1024x4 : Shape := ⟨2, ![1024, 4]⟩
abbrev S512x4 : Shape := ⟨2, ![512, 4]⟩
abbrev S512x128 : Shape := ⟨2, ![512, 128]⟩
abbrev S512x388 : Shape := ⟨2, ![512, 388]⟩
abbrev S6x256 : Shape := ⟨2, ![6, 256]⟩
abbrev S8x256 : Shape := ⟨2, ![8, 256]⟩
abbrev S16x256x4096 : Shape := ⟨3, ![16, 256, 4096]⟩
abbrev S1x256x512 : Shape := ⟨3, ![1, 256, 512]⟩
abbrev S256x512 : Shape := ⟨2, ![256, 512]⟩

abbrev nBuf : Space → Nat
  | .hbm => 44
  | .vmem => 44
  | .smem => 0
  | _ => 0

abbrev bufTy : (tb : Table) → Fin (tcTables nBuf tb) → BufTy
  | .hbm, ⟨0, _⟩ => ⟨S16x3x4096, .f32⟩
  | .hbm, ⟨1, _⟩ => ⟨S16x3x1024, .f32⟩
  | .hbm, ⟨2, _⟩ => ⟨S16x128x4096, .f32⟩
  | .hbm, ⟨3, _⟩ => ⟨S16x256x1024, .f32⟩
  | .hbm, ⟨4, _⟩ => ⟨S16x1024x4, .f32⟩
  | .hbm, ⟨5, _⟩ => ⟨S256x388, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S16x4096x3, .f32⟩
  | .hbm, ⟨14, _⟩ => ⟨S16x4096x128, .f32⟩
  | .hbm, ⟨15, _⟩ => ⟨S16x1024x256, .f32⟩
  | .hbm, ⟨16, _⟩ => ⟨S16x4x1024, .f32⟩
  | .hbm, ⟨17, _⟩ => ⟨S388x256, .f32⟩
  | .hbm, ⟨18, _⟩ => ⟨S256x256, .f32⟩
  | .hbm, ⟨19, _⟩ => ⟨S1x256, .f32⟩
  | .hbm, ⟨20, _⟩ => ⟨S1x256, .f32⟩
  | .hbm, ⟨21, _⟩ => ⟨S16x4096x256, .f32⟩
  | .hbm, ⟨22, _⟩ => ⟨S16x8x8x256, .f32⟩
  | .hbm, ⟨23, _⟩ => ⟨S16x4096x256, .f32⟩
  | .hbm, ⟨24, _⟩ => ⟨S16x8x8x256, .f32⟩
  | .hbm, ⟨25, _⟩ => ⟨S1024x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S16x4096x256, .f32⟩
  | .hbm, ⟨33, _⟩ => ⟨S16x8x8x256, .f32⟩
  | .hbm, ⟨34, _⟩ => ⟨S16x4096x256, .f32⟩
  | .hbm, ⟨35, _⟩ => ⟨S16x8x8x256, .f32⟩
  | .hbm, ⟨36, _⟩ => ⟨S1024x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S16x256x4096, .f32⟩
  | .local _ .vmem, ⟨0, _⟩ => ⟨S1x512x3, .f32⟩
  | .local _ .vmem, ⟨1, _⟩ => ⟨S1x512x3, .f32⟩
  | .local _ .vmem, ⟨2, _⟩ => ⟨S1x3x1024, .f32⟩
  | .local _ .vmem, ⟨3, _⟩ => ⟨S1x3x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x1024x4, .f32⟩
  | .local _ .vmem, ⟨7, _⟩ => ⟨S1x1024x4, .f32⟩
  | .local _ .vmem, ⟨8, _⟩ => ⟨S1x1024x256, .f32⟩
  | .local _ .vmem, ⟨9, _⟩ => ⟨S1x1024x256, .f32⟩
  | .local _ .vmem, ⟨10, _⟩ => ⟨S1x512x128, .f32⟩
  | .local _ .vmem, ⟨11, _⟩ => ⟨S1x512x128, .f32⟩
  | .local _ .vmem, ⟨12, _⟩ => ⟨S388x256, .f32⟩
  | .local _ .vmem, ⟨13, _⟩ => ⟨S1x256, .f32⟩
  | .local _ .vmem, ⟨14, _⟩ => ⟨S1x512x256, .f32⟩
  | .local _ .vmem, ⟨15, _⟩ => ⟨S1x512x256, .f32⟩
  | .local _ .vmem, ⟨16, _⟩ => ⟨S1x1x8x256, .f32⟩
  | .local _ .vmem, ⟨17, _⟩ => ⟨S1x1x8x256, .f32⟩
  | .local _ .vmem, ⟨18, _⟩ => ⟨S1024x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x512x256, .f32⟩
  | .local _ .vmem, ⟨24, _⟩ => ⟨S1x512x256, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x512x256, .f32⟩
  | .local _ .vmem, ⟨30, _⟩ => ⟨S1x512x256, .f32⟩
  | .local _ .vmem, ⟨31, _⟩ => ⟨S1x1x8x256, .f32⟩
  | .local _ .vmem, ⟨32, _⟩ => ⟨S1x1x8x256, .f32⟩
  | .local _ .vmem, ⟨33, _⟩ => ⟨S1024x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x512x256, .f32⟩
  | .local _ .vmem, ⟨39, _⟩ => ⟨S1x512x256, .f32⟩
  | .local _ .vmem, ⟨40, _⟩ => ⟨S1x256, .f32⟩
  | .local _ .vmem, ⟨41, _⟩ => ⟨S1x256, .f32⟩
  | .local _ .vmem, ⟨42, _⟩ => ⟨S1x256x512, .f32⟩
  | .local _ .vmem, ⟨43, _⟩ => ⟨S1x256x512, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v14_0 : Ref sig .tc := ⟨.hbm, 30, rfl⟩
abbrev main_v14_1 : Ref sig .tc := ⟨.hbm, 31, rfl⟩
abbrev main_v15_0 : Ref sig .tc := ⟨.hbm, 32, rfl⟩
abbrev main_v15_1 : Ref sig .tc := ⟨.hbm, 33, rfl⟩
abbrev main_v16_0 : Ref sig .tc := ⟨.hbm, 34, rfl⟩
abbrev main_v16_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v21_0 : Ref sig .tc := ⟨.hbm, 41, rfl⟩
abbrev main_v21_1 : Ref sig .tc := ⟨.hbm, 42, rfl⟩
abbrev main_v22 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S388x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := .none

abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x1x8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := .none

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨2, ![16, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x256x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== ReferenceIdeal.lean ====
abbrev S16x3x4096 : Shape := ⟨3, ![16, 3, 4096]⟩
abbrev S16x3x1024 : Shape := ⟨3, ![16, 3, 1024]⟩
abbrev S16x128x4096 : Shape := ⟨3, ![16, 128, 4096]⟩
abbrev S16x256x1024 : Shape := ⟨3, ![16, 256, 1024]⟩
abbrev S16x1024x4 : Shape := ⟨3, ![16, 1024, 4]⟩
abbrev S256x388 : Shape := ⟨2, ![256, 388]⟩
abbrev S256 : Shape := ⟨1, ![256]⟩
abbrev S256x256 : Shape := ⟨2, ![256, 256]⟩
abbrev S16x4096x3 : Shape := ⟨3, ![16, 4096, 3]⟩
abbrev S16x1024x3 : Shape := ⟨3, ![16, 1024, 3]⟩
abbrev S16x1024x256 : Shape := ⟨3, ![16, 1024, 256]⟩
abbrev S16x4096x1024 : Shape := ⟨3, ![16, 4096, 1024]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x3x1 : Shape := ⟨4, ![16, 4096, 3, 1]⟩
abbrev S1 : Shape := ⟨1, ![1]⟩
abbrev S1x1x1x1 : Shape := ⟨4, ![1, 1, 1, 1]⟩
abbrev S16x4096x3x256 : Shape := ⟨4, ![16, 4096, 3, 256]⟩
abbrev S16x4096x256 : Shape := ⟨3, ![16, 4096, 256]⟩
abbrev S16x4096x4 : Shape := ⟨3, ![16, 4096, 4]⟩
abbrev S16x4096x128 : Shape := ⟨3, ![16, 4096, 128]⟩
abbrev S16x4096x388 : Shape := ⟨3, ![16, 4096, 388]⟩
abbrev S16x388x4096 : Shape := ⟨3, ![16, 388, 4096]⟩
abbrev S16x256x4096 : Shape := ⟨3, ![16, 256, 4096]⟩
abbrev S1x256x1 : Shape := ⟨3, ![1, 256, 1]⟩

abbrev nBuf : Space → Nat
  | .hbm => 221
  | .vmem => 0
  | .smem => 0
  | _ => 0

abbrev hbmTy0_0 (i : Nat) : BufTy := match i % 128 with
  | 0 => ⟨S16x3x4096, .f32⟩
  | 1 => ⟨S16x3x1024, .f32⟩
  | 2 => ⟨S16x128x4096, .f32⟩
  | 3 => ⟨S16x256x1024, .f32⟩
  | 4 => ⟨S16x1024x4, .f32⟩
  | 5 => ⟨S256x388, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S16x4096x3, .f32⟩
  | 14 => ⟨S16x1024x3, .f32⟩
  | 15 => ⟨S16x1024x256, .f32⟩
  | 16 => ⟨S16x4096x1024, .f32⟩
  | 17 => ⟨S_, .f32⟩
  | 18 => ⟨S16x4096x1024, .f32⟩
  | 19 => ⟨S16x4096x1024, .f32⟩
  | 20 => ⟨S16x4096x3, .f32⟩
  | 21 => ⟨S_, .f32⟩
  | 22 => ⟨S16x4096, .f32⟩
  | 23 => ⟨S16x4096x1, .f32⟩
  | 24 => ⟨S16x4096x1024, .f32⟩
  | 25 => ⟨S16x4096x1024, .f32⟩
  | 26 => ⟨S16x1024x3, .f32⟩
  | 27 => ⟨S_, .f32⟩
  | 28 => ⟨S16x1024, .f32⟩
  | 29 => ⟨S16x1x1024, .f32⟩
  | 30 => ⟨S16x4096x1024, .f32⟩
  | 31 => ⟨S16x4096x1024, .f32⟩
  | 32 => ⟨S16x4096x1024, .i32⟩
  | 33 => ⟨S16x4096x1024, .f32⟩
  | 34 => ⟨S16x4096x1024, .i32⟩
  | 35 => ⟨S16x4096x3, .i32⟩
  | 36 => ⟨S_, .i32⟩
  | 37 => ⟨S16x4096x3, .i32⟩
  | 38 => ⟨S16x4096x3, .i1⟩
  | 39 => ⟨S_, .i32⟩
  | 40 => ⟨S16x4096x3, .i32⟩
  | 41 => ⟨S16x4096x3, .i32⟩
  | 42 => ⟨S16x4096x3, .i32⟩
  | 43 => ⟨S16x4096x3x1, .i32⟩
  | 44 => ⟨S1, .i32⟩
  | 45 => ⟨S_, .i32⟩
  | 46 => ⟨S16x4096x3x1, .i32⟩
  | 47 => ⟨S16x4096x3x1, .i1⟩
  | 48 => ⟨S1x1x1x1, .i32⟩
  | 49 => ⟨S16x4096x3x1, .i32⟩
  | 50 => ⟨S16x4096x3x1, .i1⟩
  | 51 => ⟨S16x4096x3x1, .i1⟩
  | 52 => ⟨S_, .i1⟩
  | 53 => ⟨S16x4096x3, .i1⟩
  | 54 => ⟨S16x4096x3, .f32⟩
  | 55 => ⟨S_, .f32⟩
  | 56 => ⟨S16x4096x3, .f32⟩
  | 57 => ⟨S16x4096x3, .f32⟩
  | 58 => ⟨S_, .f32⟩
  | 59 => ⟨S16x4096x3, .f32⟩
  | 60 => ⟨S16x4096x3, .f32⟩
  | 61 => ⟨S_, .f32⟩
  | 62 => ⟨S16x4096x3, .f32⟩
  | 63 => ⟨S16x4096x3, .f32⟩
  | 64 => ⟨S_, .f32⟩
  | 65 => ⟨S16x4096, .f32⟩
  | 66 => ⟨S16x4096x1, .f32⟩
  | 67 => ⟨S16x4096x3, .f32⟩
  | 68 => ⟨S16x4096x3, .f32⟩
  | 69 => ⟨S_, .i32⟩
  | 70 => ⟨S16x4096x3, .i32⟩
  | 71 => ⟨S16x4096x3, .i1⟩
  | 72 => ⟨S_, .i32⟩
  | 73 => ⟨S16x4096x3, .i32⟩
  | 74 => ⟨S16x4096x3, .i32⟩
  | 75 => ⟨S16x4096x3, .i32⟩
  | 76 => ⟨S16x4096x3x1, .i32⟩
  | 77 => ⟨S16x4096x3x256, .f32⟩
  | 78 => ⟨S16x4096x3x1, .f32⟩
  | 79 => ⟨S16x4096x3x256, .f32⟩
  | 80 => ⟨S16x4096x3x256, .f32⟩
  | 81 => ⟨S_, .f32⟩
  | 82 => ⟨S16x4096x256, .f32⟩
  | 83 => ⟨S16x1024x3, .f32⟩
  | 84 => ⟨S16x4096x1024, .f32⟩
  | 85 => ⟨S_, .f32⟩
  | 86 => ⟨S16x4096x1024, .f32⟩
  | 87 => ⟨S16x4096x1024, .f32⟩
  | 88 => ⟨S16x4096x3, .f32⟩
  | 89 => ⟨S_, .f32⟩
  | 90 => ⟨S16x4096, .f32⟩
  | 91 => ⟨S16x4096x1, .f32⟩
  | 92 => ⟨S16x4096x1024, .f32⟩
  | 93 => ⟨S16x4096x1024, .f32⟩
  | 94 => ⟨S16x1024x3, .f32⟩
  | 95 => ⟨S_, .f32⟩
  | 96 => ⟨S16x1024, .f32⟩
  | 97 => ⟨S16x1x1024, .f32⟩
  | 98 => ⟨S16x4096x1024, .f32⟩
  | 99 => ⟨S16x4096x1024, .f32⟩
  | 100 => ⟨S16x4096x1024, .i32⟩
  | 101 => ⟨S16x4096x1024, .f32⟩
  | 102 => ⟨S16x4096x1024, .i32⟩
  | 103 => ⟨S16x4096x1, .i32⟩
  | 104 => ⟨S16x4096, .i32⟩
  | 105 => ⟨S_, .i32⟩
  | 106 => ⟨S16x4096, .i32⟩
  | 107 => ⟨S16x4096, .i1⟩
  | 108 => ⟨S_, .i32⟩
  | 109 => ⟨S16x4096, .i32⟩
  | 110 => ⟨S16x4096, .i32⟩
  | 111 => ⟨S16x4096, .i32⟩
  | 112 => ⟨S16x4096x1, .i32⟩
  | 113 => ⟨S16x4096x4, .f32⟩
  | 114 => ⟨S16x4096x128, .f32⟩
  | 115 => ⟨S16x4096x388, .f32⟩
  | 116 => ⟨S16x388x4096, .f32⟩
  | 117 => ⟨S16x4096x256, .f32⟩
  | 118 => ⟨S16x256x4096, .f32⟩
  | 119 => ⟨S1x256x1, .f32⟩
  | 120 => ⟨S16x256x4096, .f32⟩
  | 121 => ⟨S16x256x4096, .f32⟩
  | 122 => ⟨S_, .f32⟩
  | 123 => ⟨S256, .f32⟩
  | 124 => ⟨S1x256x1, .f32⟩
  | 125 => ⟨S_, .f32⟩
  | 126 => ⟨S1x256x1, .f32⟩
  | 127 => ⟨S1x256x1, .f32⟩
  | _ => ⟨S16x3x4096, .f32⟩

abbrev hbmTy0_1 (i : Nat) : BufTy := match i % 128 with
  | 0 => ⟨S_, .i32⟩
  | 1 => ⟨S_, .f32⟩
  | 2 => ⟨S256, .f32⟩
  | 3 => ⟨S1x256x1, .f32⟩
  | 4 => ⟨S_, .f32⟩
  | 5 => ⟨S1x256x1, .f32⟩
  | 6 => ⟨S1x256x1, .f32⟩
  | 7 => ⟨S16x256x4096, .f32⟩
  | 8 => ⟨S16x256x4096, .f32⟩
  | 9 => ⟨S16x256x4096, .f32⟩
  | 10 => ⟨S_, .f32⟩
  | 11 => ⟨S_, .f32⟩
  | 12 => ⟨S_, .f32⟩
  | 13 => ⟨S_, .f32⟩
  | 14 => ⟨S256, .f32⟩
  | 15 => ⟨S1x256x1, .f32⟩
  | 16 => ⟨S1x256x1, .f32⟩
  | 17 => ⟨S1x256x1, .f32⟩
  | 18 => ⟨S_, .f32⟩
  | 19 => ⟨S_, .i1⟩
  | 20 => ⟨S_, .f32⟩
  | 21 => ⟨S_, .f32⟩
  | 22 => ⟨S1x256x1, .f32⟩
  | 23 => ⟨S1x256x1, .f32⟩
  | 24 => ⟨S16x256x4096, .f32⟩
  | 25 => ⟨S16x256x4096, .f32⟩
  | 26 => ⟨S_, .f32⟩
  | 27 => ⟨S1x256x1, .f32⟩
  | 28 => ⟨S1x256x1, .f32⟩
  | 29 => ⟨S1x256x1, .f32⟩
  | 30 => ⟨S16x256x4096, .f32⟩
  | 31 => ⟨S16x256x4096, .f32⟩
  | 32 => ⟨S1x256x1, .f32⟩
  | 33 => ⟨S16x256x4096, .f32⟩
  | 34 => ⟨S16x256x4096, .f32⟩
  | 35 => ⟨S1x256x1, .f32⟩
  | 36 => ⟨S16x256x4096, .f32⟩
  | 37 => ⟨S16x256x4096, .f32⟩
  | 38 => ⟨S_, .f32⟩
  | 39 => ⟨S16x256x4096, .f32⟩
  | 40 => ⟨S16x256x4096, .f32⟩
  | 41 => ⟨S16x4096x256, .f32⟩
  | 42 => ⟨S16x256x4096, .f32⟩
  | 43 => ⟨S1x256x1, .f32⟩
  | 44 => ⟨S16x256x4096, .f32⟩
  | 45 => ⟨S16x256x4096, .f32⟩
  | 46 => ⟨S_, .f32⟩
  | 47 => ⟨S256, .f32⟩
  | 48 => ⟨S1x256x1, .f32⟩
  | 49 => ⟨S_, .f32⟩
  | 50 => ⟨S1x256x1, .f32⟩
  | 51 => ⟨S1x256x1, .f32⟩
  | 52 => ⟨S_, .i32⟩
  | 53 => ⟨S_, .f32⟩
  | 54 => ⟨S256, .f32⟩
  | 55 => ⟨S1x256x1, .f32⟩
  | 56 => ⟨S_, .f32⟩
  | 57 => ⟨S1x256x1, .f32⟩
  | 58 => ⟨S1x256x1, .f32⟩
  | 59 => ⟨S16x256x4096, .f32⟩
  | 60 => ⟨S16x256x4096, .f32⟩
  | 61 => ⟨S16x256x4096, .f32⟩
  | 62 => ⟨S_, .f32⟩
  | 63 => ⟨S_, .f32⟩
  | 64 => ⟨S_, .f32⟩
  | 65 => ⟨S_, .f32⟩
  | 66 => ⟨S256, .f32⟩
  | 67 => ⟨S1x256x1, .f32⟩
  | 68 => ⟨S1x256x1, .f32⟩
  | 69 => ⟨S1x256x1, .f32⟩
  | 70 => ⟨S_, .f32⟩
  | 71 => ⟨S_, .i1⟩
  | 72 => ⟨S_, .f32⟩
  | 73 => ⟨S_, .f32⟩
  | 74 => ⟨S1x256x1, .f32⟩
  | 75 => ⟨S1x256x1, .f32⟩
  | 76 => ⟨S16x256x4096, .f32⟩
  | 77 => ⟨S16x256x4096, .f32⟩
  | 78 => ⟨S_, .f32⟩
  | 79 => ⟨S1x256x1, .f32⟩
  | 80 => ⟨S1x256x1, .f32⟩
  | 81 => ⟨S1x256x1, .f32⟩
  | 82 => ⟨S16x256x4096, .f32⟩
  | 83 => ⟨S16x256x4096, .f32⟩
  | 84 => ⟨S1x256x1, .f32⟩
  | 85 => ⟨S16x256x4096, .f32⟩
  | 86 => ⟨S16x256x4096, .f32⟩
  | 87 => ⟨S1x256x1, .f32⟩
  | 88 => ⟨S16x256x4096, .f32⟩
  | 89 => ⟨S16x256x4096, .f32⟩
  | 90 => ⟨S_, .f32⟩
  | 91 => ⟨S16x256x4096, .f32⟩
  | 92 => ⟨S16x256x4096, .f32⟩
  | _ => ⟨S16x3x4096, .f32⟩

abbrev hbmTy (i : Nat) : BufTy := match i / 128 with
  | 0 => hbmTy0_0 i
  | 1 => hbmTy0_1 i
  | _ => ⟨S16x3x4096, .f32⟩

abbrev bufTy : (tb : Table) → Fin (tcTables nBuf tb) → BufTy
  | .hbm, ⟨i, _⟩ => hbmTy i
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_v0 : Ref sig .tc := ⟨.hbm, 32, rfl⟩
abbrev main_call0_v1_0 : Ref sig .tc := ⟨.hbm, 33, rfl⟩
abbrev main_v16 : Ref sig .tc := ⟨.hbm, 34, rfl⟩
abbrev main_v17 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_cst_4 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_c : Ref sig .tc := ⟨.hbm, 69, rfl⟩
abbrev main_v27 : Ref sig .tc := ⟨.hbm, 70, rfl⟩
abbrev main_v28 : Ref sig .tc := ⟨.hbm, 71, rfl⟩
abbrev main_c_5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_6 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_8 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_9 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_call2_v0 : Ref sig .tc := ⟨.hbm, 100, rfl⟩
abbrev main_call2_v1_0 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_c_10 : Ref sig .tc := ⟨.hbm, 105, rfl⟩
abbrev main_v55 : Ref sig .tc := ⟨.hbm, 106, rfl⟩
abbrev main_v56 : Ref sig .tc := ⟨.hbm, 107, rfl⟩
abbrev main_c_11 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_12 : Ref sig .tc := ⟨.hbm, 122, rfl⟩
abbrev main_v70 : Ref sig .tc := ⟨.hbm, 123, rfl⟩
abbrev main_v71 : Ref sig .tc := ⟨.hbm, 124, rfl⟩
abbrev main_cst_13 : Ref sig .tc := ⟨.hbm, 125, rfl⟩
abbrev main_v72 : Ref sig .tc := ⟨.hbm, 126, rfl⟩
abbrev main_v73 : Ref sig .tc := ⟨.hbm, 127, rfl⟩
abbrev main_c_14 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_cst_2 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_v12 : Ref sig .tc := ⟨.hbm, 145, rfl⟩
abbrev main_call3_cst_3 : Ref sig .tc := ⟨.hbm, 146, rfl⟩
abbrev main_call3_v13 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_15 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_call4_cst : Ref sig .tc := ⟨.hbm, 166, rfl⟩
abbrev main_call4_v0 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_cst_16 : Ref sig .tc := ⟨.hbm, 174, rfl⟩
abbrev main_v94 : Ref sig .tc := ⟨.hbm, 175, rfl⟩
abbrev main_v95 : Ref sig .tc := ⟨.hbm, 176, rfl⟩
abbrev main_cst_17 : Ref sig .tc := ⟨.hbm, 177, rfl⟩
abbrev main_v96 : Ref sig .tc := ⟨.hbm, 178, rfl⟩
abbrev main_v97 : Ref sig .tc := ⟨.hbm, 179, rfl⟩
abbrev main_c_18 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_cst_0 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_call5_v5 : Ref sig .tc := ⟨.hbm, 188, rfl⟩
abbrev main_call5_v6 : Ref sig .tc := ⟨.hbm, 189, rfl⟩
abbrev main_call5_v7 : Ref sig .tc := ⟨.hbm, 190, rfl⟩
abbrev main_call5_cst_1 : Ref sig .tc := ⟨.hbm, 191, rfl⟩
abbrev main_call5_v8 : Ref sig .tc := ⟨.hbm, 192, rfl⟩
abbrev main_call5_cst_2 : Ref sig .tc := ⟨.hbm, 193, rfl⟩
abbrev main_call5_v9 : Ref sig .tc := ⟨.hbm, 194, rfl⟩
abbrev main_call5_v10 : Ref sig .tc := ⟨.hbm, 195, rfl⟩
abbrev main_call5_v11 : Ref sig .tc := ⟨.hbm, 196, rfl⟩
abbrev main_call5_v12 : Ref sig .tc := ⟨.hbm, 197, rfl⟩
abbrev main_call5_cst_3 : Ref sig .tc := ⟨.hbm, 198, rfl⟩
abbrev main_call5_v13 : Ref sig .tc := ⟨.hbm, 199, rfl⟩
abbrev main_call5_cst_4 : Ref sig .tc := ⟨.hbm, 200, rfl⟩
abbrev main_call5_call0_v0 : Ref sig .tc := ⟨.hbm, 201, rfl⟩
abbrev main_call5_call0_v1 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_cst_19 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_call6_cst : Ref sig .tc := ⟨.hbm, 218, rfl⟩
abbrev main_call6_v0 : Ref sig .tc := ⟨.hbm, 219, rfl⟩
abbrev main_v112 : Ref sig .tc := ⟨.hbm, 220, rfl⟩

abbrev nD : Nat := 1
abbrev τ : Topo := Topo.v7x

variable {F : FTy → Type} [FloatOps F]
-- ==== Proof.KernelRun.lean ====
/-
  The kernel's run, with its result: the same launch as the generated frame theorem, but the final state is also read at the
  result buffer, which ends holding what the last boundary of the run (`Gen.W10`) says it holds.
-/
module

public import proofs.«01_k».proof.Proof.Gen.KernelIdeal.Frame

@[expose] public section

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result buffer at the contents the run's last boundary names and with every argument
    array as it was launched. -/
theorem run : θ_run defs (onTc (τ := τ) (main (F := F))) ⟨m, fun _ => 0, ρ⟩ (fun r => ∀ c : Dev nD,
      r.2.mem ((c.tc : Thread nD τ).loc main_v22) = W10 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v22 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.BN.lean ====
/-
  Batch normalization of one channel, two ways. The kernel scales by `a = g / √(E[y²] - m² + ε)` and shifts by `be - m·a`; the
  reference computes `(y - m) / √(E[(y - m)²] + ε) · g + be`. Over extended reals the two agree at every entry whenever the
  gain `g` is finite: where all entries are finite this is the identity `E[y²] - m² = E[(y - m)²]`, and where one is infinite
  both are the bias.
-/
module

public import Idealize.ShloMosaic.PureOps.Ideal
public import Idealize.ShloMosaic.PureOps.Ideal.Laws

@[expose] public section

noncomputable section

namespace Cert.BN

open Idealize.ShloMosaic

/-- The number of entries of a channel, 65536, as the programs' literal. -/
abbrev cN : EReal := Ideal.ofBits .f32 0x47800000#32
/-- The variance's offset, the literal nearest 1e-5. -/
abbrev cE : EReal := Ideal.ofBits .f32 0x3727C5AC#32

theorem cN_eq : cN = ((65536 : ℝ) : EReal) := by
  simp [cN, Ideal.ofBits, Ideal.ieee]
  rw [← EReal.coe_mul]
  norm_num

theorem cE_eq : ∃ e : ℝ, 0 < e ∧ cE = (e : EReal) := by
  simp [cE, Ideal.ofBits, Ideal.ieee]
  refine ⟨_, ?_, rfl⟩
  norm_num

/-- The mean from the sum. -/
def mean (S : EReal) : EReal := Ideal.div S cN
/-- The kernel's scale from the sum, the sum of squares and the gain. -/
def scale (S Q g : EReal) : EReal := Ideal.div g (Ideal.sqrt (Ideal.div Q cN - mean S * mean S + cE))
/-- The kernel's shift. -/
def shift (S Q g be : EReal) : EReal := be - mean S * scale S Q g

variable {ι : Type} [Fintype ι]

/-- The channel's entry as the reference normalizes it. -/
def normed (y : ι → EReal) (g be : EReal) (p : ι) : EReal :=
  Ideal.div (y p - mean (∑ q, y q))
    (Ideal.sqrt (Ideal.div (∑ q, (y q - mean (∑ q, y q)) * (y q - mean (∑ q, y q))) cN + cE)) * g + be

theorem sum_nonneg_top (f : ι → EReal) (hf : ∀ i, 0 ≤ f i) (i : ι) (hi : f i = ⊤) : ∑ i, f i = ⊤ := by
  have := Finset.single_le_sum (f := f) (fun j _ => hf j) (Finset.mem_univ i)
  rw [hi] at this
  exact top_le_iff.mp this

theorem sum_bot (f : ι → EReal) (i : ι) (hi : f i = ⊥) : ∑ i, f i = ⊥ := by
  classical
  rw [← Finset.add_sum_erase _ _ (Finset.mem_univ i), hi, EReal.bot_add]

theorem sum_ne_bot (s : Finset ι) (f : ι → EReal) (hf : ∀ i, f i ≠ ⊥) : ∑ i ∈ s, f i ≠ ⊥ := by
  classical
  induction s using Finset.induction_on with
  | empty => simp
  | insert a s ha ih =>
    rw [Finset.sum_insert ha]
    exact (EReal.add_ne_bot_iff.mpr ⟨hf a, ih⟩)

theorem sum_inf (y : ι → EReal) (i : ι) (hi : y i = ⊤ ∨ y i = ⊥) : ∑ q, y q = ⊤ ∨ ∑ q, y q = ⊥ := by
  classical
  by_cases hb : ∃ j, y j = ⊥
  · obtain ⟨j, hj⟩ := hb
    exact Or.inr (sum_bot y j hj)
  · have hb' : ∀ j, y j ≠ ⊥ := fun j e => hb ⟨j, e⟩
    rcases hi with hi | hi
    · left
      rw [← Finset.add_sum_erase _ _ (Finset.mem_univ i), hi]
      exact EReal.top_add_of_ne_bot (sum_ne_bot _ _ hb')
    · exact absurd hi (hb' i)

theorem mul_self_nonneg' (x : EReal) : 0 ≤ x * x := by
  induction x with
  | bot => simp
  | top => simp
  | coe r => rw [← EReal.coe_mul]; exact_mod_cast mul_self_nonneg r

theorem div_cN_top : Ideal.div ⊤ cN = ⊤ := by
  rw [cN_eq, Ideal.div, if_neg (by norm_num), ← EReal.coe_inv]
  exact EReal.top_mul_coe_of_pos (by norm_num)

theorem div_cN_bot : Ideal.div ⊥ cN = ⊥ := by
  rw [cN_eq, Ideal.div, if_neg (by norm_num), ← EReal.coe_inv]
  exact EReal.bot_mul_coe_of_pos (by norm_num)

theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

theorem sqrt_coe (x : ℝ) (hx : 0 ≤ x) : Ideal.sqrt (x : EReal) = ((Real.sqrt x : ℝ) : EReal) := by
  show (if x < 0 then (⊥ : EReal) else ((Real.sqrt x : ℝ) : EReal)) = _
  rw [if_neg (not_lt.mpr hx)]

theorem sqrt_top : Ideal.sqrt ⊤ = ⊤ := rfl
theorem sqrt_bot : Ideal.sqrt ⊥ = ⊥ := rfl

/-- The identity of the variances, over the reals. -/
theorem var_real (r : ι → ℝ) (n : ℝ) (hn : n ≠ 0) (hc : (Fintype.card ι : ℝ) = n) :
    (∑ q, r q * r q) / n - (∑ q, r q) / n * ((∑ q, r q) / n)
      = (∑ q, (r q - (∑ q, r q) / n) * (r q - (∑ q, r q) / n)) / n := by
  have h : ∀ q, (r q - (∑ q, r q) / n) * (r q - (∑ q, r q) / n)
      = r q * r q - 2 * ((∑ q, r q) / n) * r q + (∑ q, r q) / n * ((∑ q, r q) / n) := fun q => by ring
  simp only [h, Finset.sum_add_distrib, Finset.sum_sub_distrib, ← Finset.mul_sum, Finset.sum_const, Finset.card_univ,
    nsmul_eq_mul, hc]
  field_simp
  ring

theorem coe_sum (r : ι → ℝ) (s : Finset ι) : ∑ q ∈ s, ((r q : ℝ) : EReal) = ((∑ q ∈ s, r q : ℝ) : EReal) := by
  classical
  induction s using Finset.induction_on with
  | empty => simp
  | insert a s ha ih => rw [Finset.sum_insert ha, Finset.sum_insert ha, ih, EReal.coe_add]

/-- The kernel's scale and shift applied to an entry give the reference's normalized entry. -/
theorem scale_shift_eq (y : ι → EReal) (hc : Fintype.card ι = 65536) (g be : EReal) (hg : g ≠ ⊤) (hg' : g ≠ ⊥) (p : ι) :
    y p * scale (∑ q, y q) (∑ q, y q * y q) g + shift (∑ q, y q) (∑ q, y q * y q) g be = normed y g be p := by
  by_cases hinf : ∃ i, y i = ⊤ ∨ y i = ⊥
  · obtain ⟨i, hi⟩ := hinf
    have hQ : ∑ q, y q * y q = ⊤ := sum_nonneg_top _ (fun q => mul_self_nonneg' _) i (by rcases hi with h | h <;> simp [h])
    have hm : mean (∑ q, y q) = ⊤ ∨ mean (∑ q, y q) = ⊥ := by
      rcases sum_inf y i hi with h | h
      · left; rw [h]; exact div_cN_top
      · right; rw [h]; exact div_cN_bot
    obtain ⟨e, he, hE⟩ := cE_eq
    have hmm : mean (∑ q, y q) * mean (∑ q, y q) = ⊤ := by rcases hm with h | h <;> simp [h]
    have hs : scale (∑ q, y q) (∑ q, y q * y q) g = 0 := by
      unfold scale
      rw [hQ, hmm, div_cN_top, sub_eq_add_neg, EReal.neg_top, EReal.add_bot, EReal.bot_add]
      rw [sqrt_bot]
      simp [Ideal.div]
    have hd : ∀ q, (y q - mean (∑ q, y q)) * (y q - mean (∑ q, y q)) = ⊤ := by
      intro q
      rcases hm with h | h <;> rw [h] <;> induction y q <;> simp [sub_eq_add_neg]
    have hv : ∑ q, (y q - mean (∑ q, y q)) * (y q - mean (∑ q, y q)) = ⊤ :=
      sum_nonneg_top _ (fun q => mul_self_nonneg' _) i (hd i)
    unfold shift normed
    rw [hs, hv, div_cN_top, hE, EReal.top_add_coe]
    rw [sqrt_top]
    simp [Ideal.div]
  · have hfin : ∀ q, ∃ r : ℝ, y q = (r : EReal) := by
      intro q
      have h1 : y q ≠ ⊤ := fun h => hinf ⟨q, Or.inl h⟩
      have h2 : y q ≠ ⊥ := fun h => hinf ⟨q, Or.inr h⟩
      exact ⟨(y q).toReal, (EReal.coe_toReal h1 h2).symm⟩
    choose r hr using hfin
    obtain rfl : y = fun q => (r q : EReal) := funext hr
    lift g to ℝ using ⟨hg, hg'⟩
    obtain ⟨e, he, hE⟩ := cE_eq
    have hS : ∑ q, (r q : EReal) = ((∑ q, r q : ℝ) : EReal) := coe_sum r _
    have hQ : ∑ q, (r q : EReal) * (r q : EReal) = ((∑ q, r q * r q : ℝ) : EReal) := by
      simp only [← EReal.coe_mul]; exact coe_sum (fun q => r q * r q) _
    have hm : mean ((∑ q, r q : ℝ) : EReal) = (((∑ q, r q) / 65536 : ℝ) : EReal) := by
      unfold mean; rw [cN_eq, div_coe _ _ (by norm_num)]
    set m : ℝ := (∑ q, r q) / 65536 with hmdef
    have hV : ∑ q, ((r q : EReal) - (m : EReal)) * ((r q : EReal) - (m : EReal))
        = ((∑ q, (r q - m) * (r q - m) : ℝ) : EReal) := by
      simp only [← EReal.coe_sub, ← EReal.coe_mul]; exact coe_sum (fun q => (r q - m) * (r q - m)) _
    have hvar := var_real r 65536 (by norm_num) (by exact_mod_cast hc)
    rw [← hmdef] at hvar
    set v : ℝ := (∑ q, (r q - m) * (r q - m)) / 65536 with hvdef
    have hv0 : 0 ≤ v := div_nonneg (Finset.sum_nonneg fun q _ => mul_self_nonneg _) (by norm_num)
    have hpos : 0 < Real.sqrt (v + e) := Real.sqrt_pos.mpr (by linarith)
    have hs : scale ((∑ q, r q : ℝ) : EReal) ((∑ q, r q * r q : ℝ) : EReal) (g : EReal)
        = ((g / Real.sqrt (v + e) : ℝ) : EReal) := by
      unfold scale
      rw [hm, cN_eq, hE, div_coe _ _ (by norm_num), ← EReal.coe_mul, ← EReal.coe_sub, ← EReal.coe_add, hvar,
        sqrt_coe _ (by linarith), div_coe _ _ hpos.ne']
    unfold shift normed
    simp only [hS, hQ, hm, hV, hs]
    rw [cN_eq, hE, div_coe _ _ (by norm_num), ← hvdef, ← EReal.coe_add, sqrt_coe _ (by linarith), ← EReal.coe_sub,
      div_coe _ _ hpos.ne', ← EReal.coe_mul, ← EReal.coe_mul, ← EReal.coe_mul, sub_eq_add_neg, ← EReal.coe_neg,
      add_comm be, ← add_assoc, ← EReal.coe_add]
    congr 2
    field_simp
    ring

end Cert.BN

end
-- ==== Proof.KerPay.lean ====
/-
  The kernel's other payloads, read entry by entry: a block of a layer's products with its bias, the partial statistics of a
  block (its sum and its sum of squares per channel, in rows 0 and 1 of 8), the scale and shift from the gathered statistics,
  and the final block.
-/
module

public import proofs.«01_k».proof.Proof.BN
public import proofs.«01_k».proof.Proof.Gen.KernelIdeal.Frame
public import Idealize.ShloMosaic.Lib.Pointwise

@[expose] public section

set_option maxRecDepth 16384

noncomputable section

namespace Cert.KernelIdeal.KPay

open Idealize.ShloMosaic Cert.KernelIdeal.Gen

/-- Row `e` of a block's statistics, from the block's entries of one channel: the sum, the sum of squares, zeros. -/
def stat (e : Fin 8) (y : Fin 512 → EReal) : EReal :=
  if e.val < 1 then ∑ r, y r else if e.val - 1 < 1 then ∑ r, y r * y r else 0

theorem pay1_apply (v118 : FVec Ideal S512x256 .f32) (v119 : Vec Ideal S1x256 .f32) (r : Fin 512) (o : Fin 256) :
    k0_pay1 (F := Ideal) v118 v119 (ix2 r o) = v118 (ix2 r o) + v119 (ix2 0 o) := by
  unfold_payloads
  pointwise

theorem pay2_apply (v118 : FVec Ideal S512x256 .f32) (v119 : Vec Ideal S1x256 .f32) (z : Fin 1) (r : Fin 512) (o : Fin 256) :
    k0_pay2 (F := Ideal) v118 v119 (ix3 z r o) = v118 (ix2 r o) + v119 (ix2 0 o) := by
  unfold_payloads
  pointwise

theorem stats_apply (y : FVec Ideal S512x256 .f32) (z z' : Fin 1) (e : Fin 8) (o : Fin 256) :
    shapeCast S1x1x8x256 (concatenate S8x256 0
      [⟨S1x256, shapeCast S1x256 (multiReduction .add [0] S256 y 0x00000000#32 reduces_S512x256_S256 (.inl rfl) rfl) shapeCasts_S256_S1x256⟩,
       ⟨S1x256, shapeCast S1x256 (multiReduction .add [0] S256 (mulf y y) 0x00000000#32 reduces_S512x256_S256 (.inl rfl) rfl) shapeCasts_S256_S1x256⟩,
       ⟨S6x256, broadcast S6x256 (Scalar.ofBits (F := Ideal) .f32 0x00000000#32)⟩] concatenates_S1x256_S1x256_S6x256_S8x256_d0)
      shapeCasts_S8x256_S1x1x8x256 (ix4 z z' e o) = stat e fun r => y (ix2 r o) := by
  unfold stat
  refine (?_ : ∀ R : EReal, R = _ → _ = R) _ rfl
  intro R hR
  pointwise
  rw [hR]
  simp only [dite_eq_ite]

theorem pay3_apply (v118 : FVec Ideal S512x256 .f32) (v119 : Vec Ideal S1x256 .f32) (z z' : Fin 1) (e : Fin 8) (o : Fin 256) :
    k0_pay3 (F := Ideal) v118 v119 (ix4 z z' e o) = stat e fun r => v118 (ix2 r o) + v119 (ix2 0 o) := by
  refine (stats_apply (k0_pay1 v118 v119) z z' e o).trans ?_
  simp only [pay1_apply]

theorem k2_pay1_apply (v0 : Vec Ideal S1x512x256 .f32) (v2 v6 : Vec Ideal S1x256 .f32) (v12 : Vec Ideal S256x256 .f32)
    (v15 : Vec Ideal S1x256 .f32) (r : Fin 512) (o : Fin 256) :
    k2_pay1 (F := Ideal) v0 v2 v6 v12 v15 (ix2 r o)
      = (∑ k : Fin 256, max (v0 (ix3 0 r k) * v2 (ix2 0 k) + v6 (ix2 0 k)) 0 * v12 (ix2 k o)) + v15 (ix2 0 o) := by
  unfold_payloads
  pointwise

theorem k2_pay2_apply (v0 : Vec Ideal S1x512x256 .f32) (v2 v6 : Vec Ideal S1x256 .f32) (v12 : Vec Ideal S256x256 .f32)
    (v15 : Vec Ideal S1x256 .f32) (z : Fin 1) (r : Fin 512) (o : Fin 256) :
    k2_pay2 (F := Ideal) v0 v2 v6 v12 v15 (ix3 z r o)
      = (∑ k : Fin 256, max (v0 (ix3 0 r k) * v2 (ix2 0 k) + v6 (ix2 0 k)) 0 * v12 (ix2 k o)) + v15 (ix2 0 o) := by
  unfold_payloads
  pointwise

theorem k2_pay3_apply (v0 : Vec Ideal S1x512x256 .f32) (v2 v6 : Vec Ideal S1x256 .f32) (v12 : Vec Ideal S256x256 .f32)
    (v15 : Vec Ideal S1x256 .f32) (z z' : Fin 1) (e : Fin 8) (o : Fin 256) :
    k2_pay3 (F := Ideal) v0 v2 v6 v12 v15 (ix4 z z' e o)
      = stat e fun r => (∑ k : Fin 256, max (v0 (ix3 0 r k) * v2 (ix2 0 k) + v6 (ix2 0 k)) 0 * v12 (ix2 k o)) + v15 (ix2 0 o) := by
  refine (stats_apply (k2_pay1 v0 v2 v6 v12 v15) z z' e o).trans ?_
  simp only [k2_pay1_apply]

theorem k4_pay1_apply (v0 : Vec Ideal S1x512x256 .f32) (v2 v6 : Vec Ideal S1x256 .f32) (z : Fin 1) (o : Fin 256) (r : Fin 512) :
    k4_pay1 (F := Ideal) v0 v2 v6 (ix3 z o r) = max (v0 (ix3 0 r o) * v2 (ix2 0 o) + v6 (ix2 0 o)) 0 := by
  unfold_payloads
  pointwise

/-! ### The scale and shift -/

/-- A row's number modulo 8, as the program's word operations compute it. -/
theorem mod8_word : ∀ r : Fin 1024,
    Scalar.select
      (IntOp.andi
        (IntOp.xori
          (IntOp.cmpi .slt (IntOp.remsi .vector (BitVec.ofNat 32 r.val) (Scalar.select (Scalar.cmpi .eq 8#32 0#32) 1#32 8#32)) 0#32)
          (Scalar.cmpi .slt (Scalar.select (Scalar.cmpi .eq 8#32 0#32) 1#32 8#32) 0#32))
        (IntOp.cmpi .ne (IntOp.remsi .vector (BitVec.ofNat 32 r.val) (Scalar.select (Scalar.cmpi .eq 8#32 0#32) 1#32 8#32)) 0#32))
      (IntOp.addi (IntOp.remsi .vector (BitVec.ofNat 32 r.val) (Scalar.select (Scalar.cmpi .eq 8#32 0#32) 1#32 8#32))
        (Scalar.select (Scalar.cmpi .eq 8#32 0#32) 1#32 8#32))
      (IntOp.remsi .vector (BitVec.ofNat 32 r.val) (Scalar.select (Scalar.cmpi .eq 8#32 0#32) 1#32 8#32))
    = BitVec.ofNat 32 (r.val % 8) := by
  decide +kernel

theorem mod8_apply (r : Fin 1024) (o : Fin 256) : k1_pay6 (ix2 r o) = BitVec.ofNat 32 (r.val % 8) := by
  unfold_payloads
  pointwise
  exact mod8_word r

theorem eq_word0 : ∀ r : Fin 1024, IntOp.cmpi .eq (BitVec.ofNat 32 (r.val % 8)) 0#32 = BitVec.ofBool (decide (r.val % 8 = 0)) := by
  decide +kernel
theorem eq_word1 : ∀ r : Fin 1024, IntOp.cmpi .eq (BitVec.ofNat 32 (r.val % 8)) 1#32 = BitVec.ofBool (decide (r.val % 8 = 1)) := by
  decide +kernel

theorem select_decide (p : Prop) [Decidable p] (a b : EReal) : Scalar.select (BitVec.ofBool (decide p)) a b = if p then a else b := by
  by_cases h : p <;> simp [h, Scalar.select]

/-- The sum over the rows whose number is 0 modulo 8. -/
def sum0 (v : Fin 1024 → EReal) : EReal := ∑ r : Fin 1024, if r.val % 8 = 0 then v r else 0
/-- The sum over the rows whose number is 1 modulo 8. -/
def sum1 (v : Fin 1024 → EReal) : EReal := ∑ r : Fin 1024, if r.val % 8 = 1 then v r else 0

theorem sel0 (v0 : Vec Ideal S1024x256 .f32) (z : Fin 1) (o : Fin 256) :
    shapeCast S1x256 (multiReduction .add [0] S256 (select (cmpi .eq k1_pay6 (broadcast S1024x256 0#32)) (k1_pay4 v0)
      (broadcast S1024x256 (Scalar.ofBits (F := Ideal) .f32 0x00000000#32))) 0x00000000#32 reduces_S1024x256_S256 (.inl rfl) rfl)
      shapeCasts_S256_S1x256 (ix2 z o) = sum0 fun r => v0 (ix2 r o) := by
  unfold sum0 k1_pay4
  pointwise [mod8_apply, eq_word0, select_decide]

theorem sel1 (v0 : Vec Ideal S1024x256 .f32) (z : Fin 1) (o : Fin 256) :
    shapeCast S1x256 (multiReduction .add [0] S256 (select (cmpi .eq k1_pay6 (broadcast S1024x256 1#32)) (k1_pay4 v0)
      (broadcast S1024x256 (Scalar.ofBits (F := Ideal) .f32 0x00000000#32))) 0x00000000#32 reduces_S1024x256_S256 (.inl rfl) rfl)
      shapeCasts_S256_S1x256 (ix2 z o) = sum1 fun r => v0 (ix2 r o) := by
  unfold sum1 k1_pay4
  pointwise [mod8_apply, eq_word1, select_decide]

theorem k1_pay5_apply (v0 : Vec Ideal S1024x256 .f32) (z : Fin 1) (o : Fin 256) :
    k1_pay5 (F := Ideal) v0 (ix2 z o) = sum0 fun r => v0 (ix2 r o) := sel0 v0 z o

theorem scale_apply (s q : FVec Ideal S1x256 .f32) (v53 : Vec Ideal S1x256 .f32) (z : Fin 1) (o : Fin 256) :
    divf (shapeCast S1x256 v53 shapeCasts_S1x256_S1x256) (sqrt (addf (subf (divf q (broadcast S1x256 (Scalar.ofBits (F := Ideal) .f32 0x47800000#32)))
      (mulf (k1_pay1 s) (k1_pay1 s))) (broadcast S1x256 (Scalar.ofBits (F := Ideal) .f32 0x3727C5AC#32)))) (ix2 z o)
      = BN.scale (s (ix2 z o)) (q (ix2 z o)) (v53 (ix2 z o)) := by
  unfold k1_pay1 BN.scale BN.mean BN.cN BN.cE
  pointwise

/-- The scale of a channel, from the gathered statistics and the gain. -/
theorem k1_pay2_apply (v0 : Vec Ideal S1024x256 .f32) (v53 : Vec Ideal S1x256 .f32) (z : Fin 1) (o : Fin 256) :
    k1_pay2 (F := Ideal) (k1_pay4 v0) (k1_pay5 v0) k1_pay6 k1_pay7 v53 (ix2 z o)
      = BN.scale (sum0 fun r => v0 (ix2 r o)) (sum1 fun r => v0 (ix2 r o)) (v53 (ix2 z o)) := by
  refine (scale_apply _ _ v53 z o).trans ?_
  rw [k1_pay5_apply]
  exact congrArg (BN.scale _ · _) (sel1 v0 z o)

/-- The shift of a channel, from the gathered statistics, the gain and the bias. -/
theorem k1_pay3_apply (v0 : Vec Ideal S1024x256 .f32) (v53 v60 : Vec Ideal S1x256 .f32) (z : Fin 1) (o : Fin 256) :
    k1_pay3 (F := Ideal) (k1_pay4 v0) (k1_pay5 v0) k1_pay6 k1_pay7 v53 v60 (ix2 z o)
      = BN.shift (sum0 fun r => v0 (ix2 r o)) (sum1 fun r => v0 (ix2 r o)) (v53 (ix2 z o)) (v60 (ix2 z o)) := by
  unfold k1_pay3 k1_pay1 BN.shift BN.mean BN.cN
  pointwise [k1_pay2_apply, k1_pay5_apply]

theorem k3_pay2_apply (v0 : Vec Ideal S1024x256 .f32) (v53 : Vec Ideal S1x256 .f32) (z : Fin 1) (o : Fin 256) :
    k3_pay2 (F := Ideal) (k3_pay4 v0) (k3_pay5 v0) k3_pay6 k3_pay7 v53 (ix2 z o)
      = BN.scale (sum0 fun r => v0 (ix2 r o)) (sum1 fun r => v0 (ix2 r o)) (v53 (ix2 z o)) := k1_pay2_apply v0 v53 z o

theorem k3_pay3_apply (v0 : Vec Ideal S1024x256 .f32) (v53 v60 : Vec Ideal S1x256 .f32) (z : Fin 1) (o : Fin 256) :
    k3_pay3 (F := Ideal) (k3_pay4 v0) (k3_pay5 v0) k3_pay6 k3_pay7 v53 v60 (ix2 z o)
      = BN.shift (sum0 fun r => v0 (ix2 r o)) (sum1 fun r => v0 (ix2 r o)) (v53 (ix2 z o)) (v60 (ix2 z o)) :=
  k1_pay3_apply v0 v53 v60 z o

end Cert.KernelIdeal.KPay

end
-- ==== Proof.Nearest.lean ====
/-
  Choosing the nearest points. Over a row of 1024 extended-real distances this file defines the first position of the least
  value (`firstMin`), the row with one position raised to `+∞` (`raise`), and the three positions found by repeating the two
  (`near`). It shows that a stable sort of the row puts exactly those positions first, that the row's running minimum and the
  running minimum of the positions holding it compute them, and that a sum weighted by "raised to `+∞`" is the sum over the
  three positions.
-/
module

public import Idealize.ShloMosaic.PureOps.Ideal
public import Idealize.ShloMosaic.PureOps.Ideal.Laws
public import Idealize.ShloMosaic.Lib.SortPrefix
public import Idealize.ShloMosaic.Lib.SortFacts
public import Idealize.ShloMosaic.Lib.WordArith

@[expose] public section

noncomputable section

namespace Cert.Nearest

open Idealize.ShloMosaic Idealize.ShloMosaic.WordArith

/-- A row of distances. -/
abbrev Row := Fin 1024 → EReal

/-- `i` is the first position of the least value of the row. -/
def IsFirstMin (f : Row) (i : Fin 1024) : Prop := (∀ j, f i ≤ f j) ∧ ∀ j, j < i → f i < f j

theorem leastSet_nonempty (f : Row) : (Finset.univ.filter fun i : Fin 1024 => ∀ j, f i ≤ f j).Nonempty := by
  obtain ⟨i, -, hi⟩ := Finset.exists_min_image (Finset.univ : Finset (Fin 1024)) f ⟨0, Finset.mem_univ _⟩
  exact ⟨i, Finset.mem_filter.mpr ⟨Finset.mem_univ _, fun j => hi j (Finset.mem_univ _)⟩⟩

/-- The first position of the row's least value. -/
def firstMin (f : Row) : Fin 1024 := (Finset.univ.filter fun i : Fin 1024 => ∀ j, f i ≤ f j).min' (leastSet_nonempty f)

/-- `firstMin` is the first position of the least value. -/
theorem firstMin_spec (f : Row) : IsFirstMin f (firstMin f) := by
  have h := Finset.min'_mem _ (leastSet_nonempty f)
  rw [Finset.mem_filter] at h
  refine ⟨h.2, fun j hj => ?_⟩
  by_contra hn
  have hle : f j ≤ f (firstMin f) := not_lt.mp hn
  have : firstMin f ≤ j := Finset.min'_le _ _ (Finset.mem_filter.mpr ⟨Finset.mem_univ _, fun k => hle.trans (h.2 k)⟩)
  exact absurd hj (not_lt.mpr this)

/-- The row with position `i` raised to `+∞`. -/
def raise (f : Row) (i : Fin 1024) : Row := fun k => if k = i then ⊤ else f k

attribute [irreducible] firstMin

/-- The positions of the three least values, in order, the earlier position first among equal values. -/
def near (f : Row) : Fin 3 → Fin 1024
  | 0 => firstMin f
  | 1 => firstMin (raise f (firstMin f))
  | 2 => firstMin (raise (raise f (firstMin f)) (firstMin (raise f (firstMin f))))

theorem near_zero (f : Row) : near f 0 = firstMin f := rfl
theorem near_one (f : Row) : near f 1 = firstMin (raise f (near f 0)) := rfl
theorem near_two (f : Row) : near f 2 = firstMin (raise (raise f (near f 0)) (near f 1)) := rfl

theorem near0_spec (f : Row) : IsFirstMin f (near f 0) := firstMin_spec _
theorem near1_spec (f : Row) : IsFirstMin (raise f (near f 0)) (near f 1) := firstMin_spec _
theorem near2_spec (f : Row) : IsFirstMin (raise (raise f (near f 0)) (near f 1)) (near f 2) := firstMin_spec _

theorem raise_self (f : Row) (i : Fin 1024) : raise f i i = ⊤ := if_pos rfl
theorem raise_ne (f : Row) {i k : Fin 1024} (h : k ≠ i) : raise f i k = f k := if_neg h

attribute [irreducible] near raise

/-! ### The sort -/

/-- Before, by the value and then by the position. -/
abbrev before (f : Row) (k k' : Fin 1024) : Bool := decide (f k < f k') || (decide (f k = f k') && decide (k < k'))

theorem before_total (f : Row) : StrictTotalBefore (before f) :=
  StrictTotalBefore.of_key_then_position (fun a b => decide (a < b)) f (fun a => by simp)
    (fun a b c hab hbc => by simp only [decide_eq_true_eq] at *; exact hab.trans hbc)
    (fun a b => by simp only [decide_eq_true_eq]; exact lt_trichotomy a b)

/-- A stable sort of an ascending list of positions by the value alone is the sort by the value and then the position. -/
theorem stableSort_value (f : Row) (l : List (Fin 1024)) (hl : l.Pairwise (· < ·)) :
    stableSort (fun k k' => decide (f k < f k')) l = stableSort (before f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have : ¬ b < a := not_lt.mpr (hl.1 b hb').le
    simp [this]

theorem get_congr {α : Type} {l l' : List α} (h : l = l') (k : Fin l.length) (k' : Fin l'.length) (hk : k.val = k'.val) :
    l.get k = l'.get k' := by
  subst h
  rw [Fin.ext hk]

theorem sortedFrom_congr {n : Nat} {B B' : Fin n → Fin n → Bool} (h : sortPositions n B = sortPositions n B') :
    sortedFrom B = sortedFrom B' := by
  funext k
  exact get_congr h _ _ rfl

/-- So are the positions the two sorts of the whole row draw from. -/
theorem sortedFrom_value (f : Row) : sortedFrom (fun k k' : Fin 1024 => decide (f k < f k')) = sortedFrom (before f) := by
  have h : sortPositions 1024 (fun k k' => decide (f k < f k')) = sortPositions 1024 (before f) :=
    stableSort_value f _ (List.pairwise_lt_finRange 1024)
  exact sortedFrom_congr h

/-- The first position of a stable sort is the first position of the least value. -/
theorem sortedFrom_zero (f : Row) :
    sortedFrom (fun k k' : Fin 1024 => decide (f k < f k')) ((0 : Fin 1).castLE (by omega)) = firstMin f := by
  rw [sortedFrom_value]
  have h := firstMin_spec f
  have key := (before_total f).sortedFrom_eq_of_prefix (k := 1) (by omega) (fun _ => firstMin f)
    (fun a b _ => Subsingleton.elim a b) (fun i j hij => absurd hij (by rw [Subsingleton.elim i j]; exact lt_irrefl _))
    (fun i p hp => by
      have hne : firstMin f ≠ p := hp 0
      simp only [before, Bool.or_eq_false_iff, Bool.and_eq_false_iff, decide_eq_false_iff_not]
      refine ⟨not_lt.mpr (h.1 p), ?_⟩
      by_cases hlt : p < firstMin f
      · exact Or.inl (h.2 p hlt).ne'
      · exact Or.inr hlt) 0
  exact key

section Finite
variable (f : Row) (hf : ∀ j, f j < ⊤)
include hf

theorem near01 : near f 1 ≠ near f 0 := by
  intro h
  have h1 := near1_spec f
  rw [h] at h1
  obtain ⟨j, hj⟩ : ∃ j : Fin 1024, j ≠ near f 0 := exists_ne _
  have := h1.1 j
  rw [raise_self, raise_ne f hj] at this
  exact absurd (hf j) (not_lt.mpr this)

theorem near02 : near f 2 ≠ near f 0 ∧ near f 2 ≠ near f 1 := by
  have h2 := near2_spec f
  obtain ⟨j, hj0, hj1⟩ : ∃ j : Fin 1024, j ≠ near f 0 ∧ j ≠ near f 1 := by
    by_contra hno
    have hc : (Finset.univ : Finset (Fin 1024)) ⊆ {near f 0, near f 1} := fun j _ => by
      by_cases h : j = near f 0
      · simp [h]
      · have : j = near f 1 := by
          by_contra h'
          exact hno ⟨j, h, h'⟩
        simp [this]
    have := Finset.card_le_card hc
    have h3 := Finset.card_le_two (a := near f 0) (b := near f 1)
    rw [Finset.card_univ, Fintype.card_fin] at this
    omega
  have hj := h2.1 j
  have hlt : raise (raise f (near f 0)) (near f 1) (near f 2) < ⊤ := by
    refine lt_of_le_of_lt hj ?_
    rw [raise_ne _ hj1, raise_ne _ hj0]; exact hf j
  constructor
  · intro h
    rw [h, raise_ne _ (near01 f hf).symm, raise_self] at hlt
    exact lt_irrefl _ hlt
  · intro h
    rw [h, raise_self] at hlt
    exact lt_irrefl _ hlt

/-- The three positions are different. -/
theorem near_injective : Function.Injective (near f) := by
  have h1 := near01 f hf
  have h2 := near02 f hf
  intro a b h
  match a, b with
  | 0, 0 => rfl
  | 1, 1 => rfl
  | 2, 2 => rfl
  | 0, 1 => exact absurd h.symm h1
  | 1, 0 => exact absurd h h1
  | 0, 2 => exact absurd h.symm h2.1
  | 2, 0 => exact absurd h h2.1
  | 1, 2 => exact absurd h.symm h2.2
  | 2, 1 => exact absurd h h2.2

/-- The second and the third least value are values of the row. -/
theorem raise_near1 : raise f (near f 0) (near f 1) = f (near f 1) := raise_ne _ (near01 f hf)
theorem raise_near2 : raise (raise f (near f 0)) (near f 1) (near f 2) = f (near f 2) :=
  (raise_ne _ (near02 f hf).2).trans (raise_ne _ (near02 f hf).1)

/-- No position other than the earlier ones sorts before one of the three. -/
theorem near_le (s : Fin 3) (p : Fin 1024) (hp : ∀ j, j < s → near f j ≠ p) : before f p (near f s) = false := by
  simp only [before, Bool.or_eq_false_iff, Bool.and_eq_false_iff, decide_eq_false_iff_not]
  have key : ∀ (g : Row) (i : Fin 1024), IsFirstMin g i → g p = f p → g i = f i →
      ¬ f p < f i ∧ (¬ f p = f i ∨ ¬ p < i) := by
    intro g i h e1 e2
    rw [← e1, ← e2]
    refine ⟨not_lt.mpr (h.1 p), ?_⟩
    by_cases hlt : p < i
    · exact Or.inl (h.2 p hlt).ne'
    · exact Or.inr hlt
  match s with
  | 0 => exact key f _ (near0_spec f) rfl rfl
  | 1 =>
    have hp0 : p ≠ near f 0 := fun e => hp 0 (by decide) e.symm
    exact key _ _ (near1_spec f) (raise_ne _ hp0) (raise_near1 f hf)
  | 2 =>
    have hp0 : p ≠ near f 0 := fun e => hp 0 (by decide) e.symm
    have hp1 : p ≠ near f 1 := fun e => hp 1 (by decide) e.symm
    exact key _ _ (near2_spec f) ((raise_ne _ hp1).trans (raise_ne _ hp0)) (raise_near2 f hf)

/-- The first three positions of a stable sort of a row of finite values are the three nearest. -/
theorem sortedFrom_near (s : Fin 3) :
    sortedFrom (fun k k' : Fin 1024 => decide (f k < f k')) (s.castLE (by decide)) = near f s := by
  rw [sortedFrom_value]
  refine (before_total f).sortedFrom_eq_of_prefix (k := 3) (by decide) (near f) (near_injective f hf)
    (fun i j hij => near_le f hf i _ fun k hk e => ?_) (fun i p hp => near_le f hf i p fun j _ => hp j) s
  have := near_injective f hf e
  subst this
  exact absurd hij (not_lt.mpr hk.le)

/-- After the three positions are raised, a position's value is `+∞` exactly if it is one of the three. -/
theorem raised_eq_top (k : Fin 1024) :
    raise (raise (raise f (near f 0)) (near f 1)) (near f 2) k = ⊤ ↔ ∃ s, near f s = k := by
  constructor
  · intro h
    by_cases h2 : k = near f 2; · exact ⟨2, h2.symm⟩
    by_cases h1 : k = near f 1; · exact ⟨1, h1.symm⟩
    by_cases h0 : k = near f 0; · exact ⟨0, h0.symm⟩
    rw [raise_ne _ h2, raise_ne _ h1, raise_ne _ h0] at h
    exact absurd h (hf k).ne
  · have h1 := near01 f hf
    have h2 := near02 f hf
    rintro ⟨s, rfl⟩
    match s with
    | 0 => rw [raise_ne _ h2.1.symm, raise_ne _ h1.symm, raise_self]
    | 1 => rw [raise_ne _ h2.2.symm, raise_self]
    | 2 => rw [raise_self]

/-- A sum over the row of weights that are zero off the raised positions is the sum over the three positions. -/
theorem sum_raised (w p : Row) :
    (∑ k, (if raise (raise (raise f (near f 0)) (near f 1)) (near f 2) k = ⊤ then w k else 0) * p k)
      = ∑ s, w (near f s) * p (near f s) := by
  classical
  have hinj := near_injective f hf
  have h1 : ∀ k, (if raise (raise (raise f (near f 0)) (near f 1)) (near f 2) k = ⊤ then w k else 0) * p k
      = if k ∈ Finset.univ.image (near f) then w k * p k else 0 := by
    intro k
    by_cases h : ∃ s, near f s = k
    · rw [if_pos ((raised_eq_top f hf k).mpr h), if_pos (by simpa using h)]
    · rw [if_neg (fun e => h ((raised_eq_top f hf k).mp e)), if_neg (by simpa using h), zero_mul]
  rw [Finset.sum_congr rfl fun k _ => h1 k, Finset.sum_ite_mem, Finset.univ_inter,
    Finset.sum_image fun a _ b _ e => hinj e]

end Finite

/-! ### The running minimum, and the first position holding it -/

/-- The running minimum of the row from `+∞` is its least value. -/
theorem fold_min_row (f : Row) : (Finset.univ : Finset (Fin 1024)).fold min ⊤ f = f (firstMin f) := by
  have h := firstMin_spec f
  refine le_antisymm ?_ ?_
  · exact (Finset.fold_min_le (f (firstMin f))).mpr (Or.inr ⟨firstMin f, Finset.mem_univ _, le_refl _⟩)
  · exact (Finset.le_fold_min (f (firstMin f))).mpr ⟨le_top, fun j _ => h.1 j⟩

/-- The running signed minimum of position words, from the largest word, over a set of positions, is the least position. -/
theorem toNat_fold_minsi (g : Fin 1024 → BitVec 32) (hg : ∀ k, (g k).toNat < 2 ^ 31) (S : Finset (Fin 1024)) :
    (S.fold IntOp.minsi 2147483647#32 g).toNat = S.fold min 2147483647 fun k => (g k).toNat := by
  classical
  have hlt : ∀ S : Finset (Fin 1024), S.fold min 2147483647 (fun k => (g k).toNat) < 2 ^ 31 := fun S =>
    lt_of_le_of_lt ((Finset.fold_min_le _).mpr (Or.inl (le_refl _))) (by decide)
  induction S using Finset.induction_on with
  | empty => rfl
  | insert a S ha ih =>
    rw [Finset.fold_insert ha, Finset.fold_insert ha, toNat_minsi_of_lt _ _ (hg a) (by rw [ih]; exact hlt S), ih]

/-- The running minimum of the positions that hold the row's least value (1024 where a position does not) is the first
    position of the least value. -/
theorem fold_minsi_row (f : Row) (g : Fin 1024 → BitVec 32)
    (hg : ∀ k, g k = if f k = f (firstMin f) then BitVec.ofNat 32 k.val else 1024#32) :
    (Finset.univ : Finset (Fin 1024)).fold IntOp.minsi 2147483647#32 g = BitVec.ofNat 32 (firstMin f).val := by
  have h := firstMin_spec f
  have hk : ∀ k : Fin 1024, (BitVec.ofNat 32 k.val).toNat = k.val := fun k =>
    toNat_ofNat_of_lt _ (lt_trans k.isLt (by decide))
  have hn : ∀ k, (g k).toNat = if f k = f (firstMin f) then k.val else 1024 := fun k => by
    rw [hg k]; split
    · exact hk k
    · rfl
  have hb : ∀ k, (g k).toNat < 2 ^ 31 := fun k => by
    rw [hn k]; have := k.isLt; split <;> omega
  apply BitVec.eq_of_toNat_eq
  rw [toNat_fold_minsi g hb, hk]
  refine le_antisymm ?_ ?_
  · exact (Finset.fold_min_le _).mpr (Or.inr ⟨firstMin f, Finset.mem_univ _, by rw [hn, if_pos rfl]⟩)
  · refine (Finset.le_fold_min _).mpr ⟨?_, fun k _ => ?_⟩
    · have := (firstMin f).isLt; omega
    · rw [hn k]
      split
      · rename_i he
        by_contra hlt
        exact absurd he (h.2 k (by rw [Fin.lt_def]; omega)).ne'
      · exact (firstMin f).isLt.le

end Cert.Nearest

end
-- ==== Proof.Spec.lean ====
/-
  The features both programs compute, as formulas over extended reals: the distance between two points, the three inverse
  distance weights, the interpolated features, the nearest point's features, and one layer's product with its bias.
-/
module

public import proofs.«01_k».proof.Proof.Nearest

@[expose] public section

noncomputable section

namespace Cert.Spec

open Idealize.ShloMosaic Cert.Nearest

/-- A point's coordinates. -/
abbrev Pt := Fin 3 → EReal

/-- The squared distance between two points as both programs compute it: `-2⟨p, q⟩ + |p|² + |q|²`. -/
def dist (p q : Pt) : EReal :=
  (Ideal.ofBits .f32 0xC0000000#32 * (∑ c, p c * q c) + ∑ c, p c * p c) + ∑ c, q c * q c

/-- The inverse distance `1 / (d + 1e-8)`. -/
def inv (d : EReal) : EReal := Ideal.div (Ideal.ofBits .f32 0x3F800000#32) (d + Ideal.ofBits .f32 0x322BCC77#32)

/-- The sum of the three inverse distances. -/
def norm (f : Row) : EReal := inv (f (near f 0)) + inv (f (near f 1)) + inv (f (near f 2))

/-- The features `p` interpolated at the three nearest points. -/
def interp (f : Row) (p : Row) : EReal := ∑ s, Ideal.div (inv (f (near f s))) (norm f) * p (near f s)

/-- Entry `k` of the 388 features of a point: its own 128, the 256 interpolated ones, the 4 of the nearest feature point. -/
def feature (own : Fin 128 → EReal) (f : Row) (p2 : Fin 1024 → Fin 256 → EReal) (g : Row) (ft : Fin 1024 → Fin 4 → EReal)
    (k : Fin 388) : EReal :=
  if h : k.val < 128 then own ⟨k.val, h⟩
  else if h2 : k.val < 384 then interp f fun j => p2 j ⟨k.val - 128, by omega⟩
  else ft (firstMin g) ⟨k.val - 384, by omega⟩

end Cert.Spec

end
-- ==== Proof.KerNear.lean ====
/-
  The kernel's choice of nearest points, read entry by entry. For a block of 512 rows of 1024 distances: the column of row
  minima is each row's least value, the broadcast index is the first position of it, and raising the row there to `+∞` is
  `Nearest.raise`.
-/
module

public import proofs.«01_k».proof.Proof.Spec
public import proofs.«01_k».proof.Proof.Gen.KernelIdeal.Frame
public import Idealize.ShloMosaic.Lib.Pointwise

@[expose] public section

set_option maxRecDepth 16384

noncomputable section

namespace Cert.KernelIdeal.KNear

open Idealize.ShloMosaic Cert.Nearest Cert.KernelIdeal.Gen

/-- Row `r` of a block of distances. -/
def row (X : FVec Ideal S512x1024 .f32) (r : Fin 512) : Row := fun k => X (ix2 r k)

/-- The positions along a row. -/
abbrev pos : IVec S512x1024 32 := iota .tc S512x1024 32 [1] iota_S512x1024_d1_w32

/-- The column of row minima. -/
abbrev minCol (X : FVec Ideal S512x1024 .f32) : FVec Ideal S512x1 .f32 :=
  shapeCast S512x1 (multiReduction .minimumf [1] S512 X 0x7F800000#32 reduces_S512x1024_S512 (.inl rfl) rfl) shapeCasts_S512_S512x1

/-- The first position of `M`'s value along a row of `X`, along the row. -/
abbrev argBlk (X : FVec Ideal S512x1024 .f32) (M : FVec Ideal S512x1 .f32) : IVec S512x1024 32 :=
  broadcastTo S512x1024 (shapeCast S512x1 (multiReductionI .minsi [1] S512
    (select (cmpf .oeq X (broadcastTo S512x1024 M broadcasts_S512x1_S512x1024)) pos (broadcast S512x1024 1024#32))
    2147483647#32 reduces_S512x1024_S512 rfl) shapeCasts_S512_S512x1) broadcasts_S512x1_S512x1024

theorem ofBits_inf : Ideal.ofBits .f32 0x7F800000#32 = ⊤ := by
  simp [Ideal.ofBits, Ideal.ieee]

/-- The column of row minima holds each row's least value. -/
theorem minCol_apply (X : FVec Ideal S512x1024 .f32) (r : Fin 512) (z : Fin 1) :
    minCol X (ix2 r z) = row X r (firstMin (row X r)) := by
  rw [← fold_min_row (row X r)]
  pointwise
  rw [ofBits_inf]
  rfl

/-- The broadcast index is the first position of the row's least value. -/
theorem argBlk_apply (X : FVec Ideal S512x1024 .f32) (M : FVec Ideal S512x1 .f32) (r : Fin 512) (k : Fin 1024)
    (hM : M (ix2 r 0) = row X r (firstMin (row X r))) :
    argBlk X M (ix2 r k) = BitVec.ofNat 32 (firstMin (row X r)).val := by
  pointwise
  exact fold_minsi_row (row X r) _ fun k => by rw [hM]; rfl

theorem ofNat_eq_iff (k i : Fin 1024) : BitVec.ofNat 32 k.val = BitVec.ofNat 32 i.val ↔ k = i := by
  constructor
  · intro h
    have := congrArg BitVec.toNat h
    rw [WordArith.toNat_ofNat_of_lt _ (lt_trans k.isLt (by decide)),
      WordArith.toNat_ofNat_of_lt _ (lt_trans i.isLt (by decide))] at this
    exact Fin.ext this
  · rintro rfl; rfl

/-- Raising the block to `+∞` where the position is the broadcast index raises each row at that position. -/
theorem raise_row (X : FVec Ideal S512x1024 .f32) (A : IVec S512x1024 32) (r : Fin 512) (i : Fin 1024)
    (hA : ∀ k, A (ix2 r k) = BitVec.ofNat 32 i.val) :
    row (select (cmpi .eq pos A) (broadcast S512x1024 (Scalar.ofBits (F := Ideal) .f32 0x7F800000#32)) X) r = raise (row X r) i := by
  funext k
  unfold row
  pointwise
  rw [hA, ofBits_inf]
  by_cases h : k = i
  · subst h
    rw [raise_self]
    simp [IntOp.cmpi, Scalar.select]
  · rw [raise_ne _ h]
    have : ¬ BitVec.ofNat 32 k.val = BitVec.ofNat 32 i.val := fun e => h ((ofNat_eq_iff k i).mp e)
    have e : (BitVec.ofNat 32 k.val == BitVec.ofNat 32 i.val) = false := beq_eq_false_iff_ne.mpr this
    simp [IntOp.cmpi, e, Scalar.select]

/-! ### The block's distances and weights -/

/-- Point `r` of the block. -/
abbrev pt (x : Vec Ideal S1x512x3 .f32) (r : Fin 512) : Fin 3 → EReal := fun c => x (ix3 0 r c)
/-- Point `k` of the other cloud. -/
abbrev qt (x : Vec Ideal S1x3x1024 .f32) (k : Fin 1024) : Fin 3 → EReal := fun c => x (ix3 0 c k)

/-- The distances of a point of the block. -/
def drow (x0 : Vec Ideal S1x512x3 .f32) (x1 : Vec Ideal S1x3x1024 .f32) (r : Fin 512) : Row :=
  fun k => Spec.dist (pt x0 r) (qt x1 k)

theorem row_pay7 (x0 : Vec Ideal S1x512x3 .f32) (x1 : Vec Ideal S1x3x1024 .f32) (r : Fin 512) :
    row (k0_pay7 (F := Ideal) x0 x1) r = drow x0 x1 r := by
  funext k
  unfold row drow Spec.dist
  unfold_payloads
  pointwise

theorem pay8_apply (x0 : Vec Ideal S1x512x3 .f32) (x1 : Vec Ideal S1x3x1024 .f32) (r : Fin 512) (z : Fin 1) :
    k0_pay8 (F := Ideal) x0 x1 (ix2 r z) = drow x0 x1 r (near (drow x0 x1 r) 0) := by
  show minCol _ _ = _
  rw [minCol_apply, row_pay7, near_zero]

theorem row_pay9 (x0 : Vec Ideal S1x512x3 .f32) (x1 : Vec Ideal S1x3x1024 .f32) (r : Fin 512) :
    row (k0_pay9 (F := Ideal) x0 x1) r = raise (drow x0 x1 r) (near (drow x0 x1 r) 0) := by
  have h := raise_row (k0_pay7 x0 x1) (argBlk (k0_pay7 x0 x1) (k0_pay8 x0 x1)) r (near (drow x0 x1 r) 0) fun k => by
    rw [argBlk_apply _ _ _ _ (by rw [pay8_apply, row_pay7, near_zero]), row_pay7, near_zero]
  rw [row_pay7] at h
  exact h

theorem pay10_apply (x0 : Vec Ideal S1x512x3 .f32) (x1 : Vec Ideal S1x3x1024 .f32) (r : Fin 512) (z : Fin 1) :
    k0_pay10 (F := Ideal) x0 x1 (ix2 r z)
      = raise (drow x0 x1 r) (near (drow x0 x1 r) 0) (near (drow x0 x1 r) 1) := by
  show minCol _ _ = _
  rw [minCol_apply, row_pay9, near_one]

theorem pay11_apply (x0 : Vec Ideal S1x512x3 .f32) (x1 : Vec Ideal S1x3x1024 .f32) (r : Fin 512) (k : Fin 1024) :
    k0_pay11 (F := Ideal) x0 x1 (ix2 r k) = BitVec.ofNat 32 (near (drow x0 x1 r) 1).val := by
  show argBlk _ _ _ = _
  rw [argBlk_apply _ _ _ _ (by rw [pay10_apply, row_pay9, near_one]), row_pay9, near_one]

/-- The block after two positions are raised. -/
abbrev blk2 (x0 : Vec Ideal S1x512x3 .f32) (x1 : Vec Ideal S1x3x1024 .f32) : FVec Ideal S512x1024 .f32 :=
  select (cmpi .eq pos (k0_pay11 x0 x1)) (broadcast S512x1024 (Scalar.ofBits (F := Ideal) .f32 0x7F800000#32)) (k0_pay9 x0 x1)

theorem row_blk2 (x0 : Vec Ideal S1x512x3 .f32) (x1 : Vec Ideal S1x3x1024 .f32) (r : Fin 512) :
    row (blk2 x0 x1) r = raise (raise (drow x0 x1 r) (near (drow x0 x1 r) 0)) (near (drow x0 x1 r) 1) := by
  rw [raise_row _ _ r _ fun k => pay11_apply x0 x1 r k, row_pay9]

/-- The block after three positions are raised. -/
abbrev blk3 (x0 : Vec Ideal S1x512x3 .f32) (x1 : Vec Ideal S1x3x1024 .f32) : FVec Ideal S512x1024 .f32 :=
  select (cmpi .eq pos (argBlk (blk2 x0 x1) (minCol (blk2 x0 x1))))
    (broadcast S512x1024 (Scalar.ofBits (F := Ideal) .f32 0x7F800000#32)) (blk2 x0 x1)

theorem row_blk3 (x0 : Vec Ideal S1x512x3 .f32) (x1 : Vec Ideal S1x3x1024 .f32) (r : Fin 512) :
    row (blk3 x0 x1) r = raise (raise (raise (drow x0 x1 r) (near (drow x0 x1 r) 0)) (near (drow x0 x1 r) 1)) (near (drow x0 x1 r) 2) := by
  rw [raise_row _ _ r (near (drow x0 x1 r) 2) fun k => by
    rw [argBlk_apply _ _ _ _ (minCol_apply _ _ _), row_blk2, near_two], row_blk2]

/-- The block of weights. -/
abbrev wmat (x0 : Vec Ideal S1x512x3 .f32) (x1 : Vec Ideal S1x3x1024 .f32) : FVec Ideal S512x1024 .f32 :=
  k0_pay12 (k0_pay7 x0 x1) pos (k0_pay8 x0 x1) (k0_pay9 x0 x1) (k0_pay10 x0 x1) (k0_pay11 x0 x1)

/-- A weight is the position's inverse distance over the sum of the three, where the position was raised, and zero elsewhere. -/
theorem wmat_apply (x0 : Vec Ideal S1x512x3 .f32) (x1 : Vec Ideal S1x3x1024 .f32) (r : Fin 512) (k : Fin 1024)
    (hf : ∀ j, drow x0 x1 r j < ⊤) :
    wmat x0 x1 (ix2 r k)
      = if raise (raise (raise (drow x0 x1 r) (near (drow x0 x1 r) 0)) (near (drow x0 x1 r) 1)) (near (drow x0 x1 r) 2) k = ⊤
        then Ideal.div (Spec.inv (drow x0 x1 r k)) (Spec.norm (drow x0 x1 r)) else 0 := by
  have e7 : k0_pay7 (F := Ideal) x0 x1 (ix2 r k) = drow x0 x1 r k := congrFun (row_pay7 x0 x1 r) k
  have e3 : blk3 x0 x1 (ix2 r k) = _ := congrFun (row_blk3 x0 x1 r) k
  have e2 : minCol (blk2 x0 x1) (ix2 r 0) = drow x0 x1 r (near (drow x0 x1 r) 2) := by
    rw [minCol_apply, row_blk2, ← near_two, raise_near2 _ hf]
  have e0 := pay8_apply x0 x1 r 0
  have e1 := pay10_apply x0 x1 r 0
  rw [raise_near1 _ hf] at e1
  have key : ∀ (b3 p7 : FVec Ideal S512x1024 .f32) (p8 p10 m2 : FVec Ideal S512x1 .f32),
      (select (cmpf .oeq b3 (broadcast S512x1024 (Scalar.ofBits (F := Ideal) .f32 0x7F800000#32)))
        (divf (divf (broadcast S512x1024 (Scalar.ofBits (F := Ideal) .f32 0x3F800000#32))
            (addf p7 (broadcast S512x1024 (Scalar.ofBits (F := Ideal) .f32 0x322BCC77#32))))
          (broadcastTo S512x1024 (addf (addf
            (divf (broadcast S512x1 (Scalar.ofBits (F := Ideal) .f32 0x3F800000#32)) (addf p8 (broadcast S512x1 (Scalar.ofBits (F := Ideal) .f32 0x322BCC77#32))))
            (divf (broadcast S512x1 (Scalar.ofBits (F := Ideal) .f32 0x3F800000#32)) (addf p10 (broadcast S512x1 (Scalar.ofBits (F := Ideal) .f32 0x322BCC77#32)))))
            (divf (broadcast S512x1 (Scalar.ofBits (F := Ideal) .f32 0x3F800000#32)) (addf m2 (broadcast S512x1 (Scalar.ofBits (F := Ideal) .f32 0x322BCC77#32)))))
            broadcasts_S512x1_S512x1024))
        (broadcast S512x1024 (Scalar.ofBits (F := Ideal) .f32 0x00000000#32))) (ix2 r k)
      = if b3 (ix2 r k) = ⊤ then Ideal.div (Spec.inv (p7 (ix2 r k)))
        (Spec.inv (p8 (ix2 r 0)) + Spec.inv (p10 (ix2 r 0)) + Spec.inv (m2 (ix2 r 0))) else 0 := by
    intro b3 p7 p8 p10 m2
    unfold Spec.inv
    pointwise
    rw [ofBits_inf]
  refine (key (blk3 x0 x1) (k0_pay7 x0 x1) (k0_pay8 x0 x1) (k0_pay10 x0 x1) (minCol (blk2 x0 x1))).trans ?_
  rw [e7, e3, e2, e0, e1]
  rfl

/-! ### The nearest feature point, and the features' product -/

/-- The distances of a point of the block to the feature points (coordinates 1 to 3 of their four channels). -/
def grow (x0 : Vec Ideal S1x512x3 .f32) (x2 : Vec Ideal S1x4x1024 .f32) (r : Fin 512) : Row :=
  fun k => Spec.dist (pt x0 r) fun c => x2 (ix3 0 ⟨1 + c.val, by omega⟩ k)

theorem pay5_apply (x0 : Vec Ideal S1x512x3 .f32) (r : Fin 512) (c : Fin 3) : k0_pay5 (F := Ideal) x0 (ix2 r c) = pt x0 r c := by
  unfold_payloads
  pointwise

theorem pay6_apply (x0 : Vec Ideal S1x512x3 .f32) (r : Fin 512) (z : Fin 1) :
    k0_pay6 (F := Ideal) x0 (ix2 r z) = ∑ c, pt x0 r c * pt x0 r c := by
  unfold_payloads
  pointwise

/-- The block of distances to the feature points. -/
abbrev gblk (x0 : Vec Ideal S1x512x3 .f32) (x2 : Vec Ideal S1x4x1024 .f32) : FVec Ideal S512x1024 .f32 :=
  addf (addf (mulf (broadcast S512x1024 (Scalar.ofBits (F := Ideal) .f32 0xC0000000#32))
      (matmul dot_S512x3_S3x1024_S512x1024_1_0_0_1_n_n none (k0_pay5 x0)
        (truncf .bf16 (extractStridedSlice S3x1024 ![1, 0] (shapeCast S4x1024 x2 shapeCasts_S1x4x1024_S4x1024) slices_S4x1024_o1_0_S3x1024) bitsLt_bf16_f32)
        (constant S512x1024 .f32 0x00000000#32)))
      (broadcastTo S512x1024 (k0_pay6 x0) broadcasts_S512x1_S512x1024))
    (broadcastTo S512x1024 (shapeCast S1x1024 (multiReduction .add [0] S1024
      (mulf (extractStridedSlice S3x1024 ![1, 0] (shapeCast S4x1024 x2 shapeCasts_S1x4x1024_S4x1024) slices_S4x1024_o1_0_S3x1024)
        (extractStridedSlice S3x1024 ![1, 0] (shapeCast S4x1024 x2 shapeCasts_S1x4x1024_S4x1024) slices_S4x1024_o1_0_S3x1024))
      0x00000000#32 reduces_S3x1024_S1024 (.inl rfl) rfl) shapeCasts_S1024_S1x1024) broadcasts_S1x1024_S512x1024)

theorem row_gblk (x0 : Vec Ideal S1x512x3 .f32) (x2 : Vec Ideal S1x4x1024 .f32) (r : Fin 512) :
    row (gblk x0 x2) r = grow x0 x2 r := by
  funext k
  unfold row grow Spec.dist
  pointwise [pay5_apply, pay6_apply]

/-- The block of ones at the nearest feature point. -/
abbrev onehot (x0 : Vec Ideal S1x512x3 .f32) (x2 : Vec Ideal S1x4x1024 .f32) : FVec Ideal S512x1024 .f32 :=
  select (cmpi .eq pos (argBlk (gblk x0 x2) (minCol (gblk x0 x2))))
    (broadcast S512x1024 (Scalar.ofBits (F := Ideal) .f32 0x3F800000#32))
    (broadcast S512x1024 (Scalar.ofBits (F := Ideal) .f32 0x00000000#32))

theorem onehot_apply (x0 : Vec Ideal S1x512x3 .f32) (x2 : Vec Ideal S1x4x1024 .f32) (r : Fin 512) (k : Fin 1024) :
    onehot x0 x2 (ix2 r k) = if k = firstMin (grow x0 x2 r) then 1 else 0 := by
  have h : argBlk (gblk x0 x2) (minCol (gblk x0 x2)) (ix2 r k) = BitVec.ofNat 32 (firstMin (grow x0 x2 r)).val := by
    rw [argBlk_apply _ _ _ _ (minCol_apply _ _ _), row_gblk]
  have key : ∀ A : IVec S512x1024 32, select (cmpi .eq pos A)
      (broadcast S512x1024 (Scalar.ofBits (F := Ideal) .f32 0x3F800000#32))
      (broadcast S512x1024 (Scalar.ofBits (F := Ideal) .f32 0x00000000#32)) (ix2 r k)
      = if BitVec.ofNat 32 k.val = A (ix2 r k) then 1 else 0 := by
    intro A
    pointwise
    by_cases e : BitVec.ofNat 32 k.val = A (ix2 r k)
    · simp [IntOp.cmpi, Scalar.select, e]
    · have e' : (BitVec.ofNat 32 k.val == A (ix2 r k)) = false := beq_eq_false_iff_ne.mpr e
      simp [IntOp.cmpi, Scalar.select, e, e']
  refine (key _).trans ?_
  rw [h]
  exact if_congr (ofNat_eq_iff _ _) rfl rfl

theorem sum_onehot (i : Fin 1024) (p : Row) : (∑ k, (if k = i then (1 : EReal) else 0) * p k) = p i := by
  rw [Finset.sum_eq_single i (fun k _ hk => by rw [if_neg hk, zero_mul]) (fun h => absurd (Finset.mem_univ i) h), if_pos rfl, one_mul]

/-- The first layer's product at a point of the block: its 388 features against the weights. -/
theorem pay14_apply (x0 : Vec Ideal S1x512x3 .f32) (x1 : Vec Ideal S1x3x1024 .f32) (x2 : Vec Ideal S1x4x1024 .f32)
    (x3 : Vec Ideal S1x1024x4 .f32) (x4 : Vec Ideal S1x1024x256 .f32) (x5 : Vec Ideal S1x512x128 .f32)
    (x6 : Vec Ideal S388x256 .f32) (r : Fin 512) (o : Fin 256) (hf : ∀ j, drow x0 x1 r j < ⊤) :
    k0_pay14 (F := Ideal) (k0_pay5 x0) (k0_pay6 x0) pos (wmat x0 x1) (k0_pay13 x4) (constant S512x256 .f32 0x00000000#32) x2 x3 x5 x6 (ix2 r o)
      = ∑ k : Fin 388, Spec.feature (fun j => x5 (ix3 0 r j)) (drow x0 x1 r) (fun j c => x4 (ix3 0 j c)) (grow x0 x2 r)
          (fun j c => x3 (ix3 0 j c)) k * x6 (ix2 k o) := by
  have key : ∀ W G : FVec Ideal S512x1024 .f32,
      matmul (φ₁ := .f32) (φ₂ := .f32) dot_S512x388_S388x256_S512x256_1_0_0_1_n_n none
        (concatenate S512x388 1 [⟨S512x128, shapeCast S512x128 x5 shapeCasts_S1x512x128_S512x128⟩,
          ⟨S512x256, matmul (φ₁ := .f32) (φ₂ := .f32) dot_S512x1024_S1024x256_S512x256_1_0_0_1_n_n (some .fp32) W (k0_pay13 x4) (constant (F := Ideal) S512x256 .f32 0x00000000#32)⟩,
          ⟨S512x4, matmul (φ₁ := .f32) (φ₂ := .f32) dot_S512x1024_S1024x4_S512x4_1_0_0_1_n_n (some .fp32) G (shapeCast S1024x4 x3 shapeCasts_S1x1024x4_S1024x4) (constant (F := Ideal) S512x4 .f32 0x00000000#32)⟩]
          concatenates_S512x128_S512x256_S512x4_S512x388_d1)
        (shapeCast S388x256 x6 shapeCasts_S388x256_S388x256) (constant (F := Ideal) S512x256 .f32 0x00000000#32) (ix2 r o)
      = ∑ k : Fin 388, (if h : k.val < 128 then x5 (ix3 0 r ⟨k.val, h⟩)
          else if h2 : k.val < 384 then ∑ j, W (ix2 r j) * x4 (ix3 0 j ⟨k.val - 128, by omega⟩)
          else ∑ j, G (ix2 r j) * x3 (ix3 0 j ⟨k.val - 384, by omega⟩)) * x6 (ix2 k o) := by
    intro W G
    refine (?_ : ∀ R : EReal, R = _ → _ = R) _ rfl
    intro R hR
    unfold_payloads
    pointwise
    rw [hR]
    refine Finset.sum_congr rfl fun k _ => ?_
    congr 1
    split
    · rfl
    · split
      · rename_i h1 h2
        rw [dif_pos (by omega)]
      · rename_i h1 h2
        rw [dif_neg (by omega)]
        simp only [Nat.sub_sub]
  have hI : ∀ c : Fin 256, (∑ j, wmat x0 x1 (ix2 r j) * x4 (ix3 0 j c)) = Spec.interp (drow x0 x1 r) fun j => x4 (ix3 0 j c) := by
    intro c
    unfold Spec.interp
    simp only [wmat_apply _ _ _ _ hf]
    exact sum_raised _ hf (fun k => Ideal.div (Spec.inv (drow x0 x1 r k)) (Spec.norm (drow x0 x1 r))) fun j => x4 (ix3 0 j c)
  have hG : ∀ c : Fin 4, (∑ j, onehot x0 x2 (ix2 r j) * x3 (ix3 0 j c)) = x3 (ix3 0 (firstMin (grow x0 x2 r)) c) := by
    intro c
    simp only [onehot_apply]
    exact sum_onehot _ fun j => x3 (ix3 0 j c)
  refine (key (wmat x0 x1) (onehot x0 x2)).trans (Finset.sum_congr rfl fun k _ => ?_)
  simp only [hI, hG]
  rfl

end Cert.KernelIdeal.KNear

end
-- ==== Proof.KerArr.lean ====
/-
  The arrays the launches compute, as functions of their operand arrays: the two layers' products, the partial statistics of
  a layer's products by blocks of 512 points, the scale and shift of a layer's channels, and the final array.
-/
module

public import proofs.«01_k».proof.Proof.KerPay
public import proofs.«01_k».proof.Proof.KerNear

@[expose] public section

set_option maxRecDepth 16384

noncomputable section

namespace Cert.KernelIdeal.KArr

open Idealize.ShloMosaic Cert.KernelIdeal Cert.KernelIdeal.Gen Cert.KernelIdeal.KPay

/-- A layer's products at every point of every batch. -/
abbrev Layer : Type := Vec Ideal S16x4096x256 .f32
/-- One number per channel. -/
abbrev Chan : Type := Vec Ideal S1x256 .f32

/-- The distances from a point to every sampled point of its batch. -/
def dRow (x0 : Vec Ideal S16x4096x3 .f32) (x1 : Vec Ideal S16x3x1024 .f32) (b : Fin 16) (n : Fin 4096) : Fin 1024 → EReal := fun j =>
  Spec.dist (fun c : Fin 3 => x0 (ix3 b n c)) (fun c : Fin 3 => x1 (ix3 b c j))

/-- The distances from a point to the positions carried by the sampled points' extra channels. -/
def gRow (x0 : Vec Ideal S16x4096x3 .f32) (x2 : Vec Ideal S16x4x1024 .f32) (b : Fin 16) (n : Fin 4096) : Fin 1024 → EReal := fun j =>
  Spec.dist (fun c : Fin 3 => x0 (ix3 b n c)) (fun c : Fin 3 => x2 (ix3 b ⟨1 + c.val, by omega⟩ j))

/-- The first layer's products. -/
def lay1 (x0 : Vec Ideal S16x4096x3 .f32) (x1 : Vec Ideal S16x3x1024 .f32) (x2 : Vec Ideal S16x4x1024 .f32) (x3 : Vec Ideal S16x1024x4 .f32)
    (x4 : Vec Ideal S16x1024x256 .f32) (x5 : Vec Ideal S16x4096x128 .f32) (x6 : Vec Ideal S388x256 .f32) (x7 : Chan) : Layer := fun i =>
  (∑ k : Fin 388, Spec.feature (fun j : Fin 128 => x5 (ix3 (i 0) (i 1) j)) (dRow x0 x1 (i 0) (i 1)) (fun j c => x4 (ix3 (i 0) j c))
    (gRow x0 x2 (i 0) (i 1)) (fun j c => x3 (ix3 (i 0) j c)) k * x6 (ix2 k (i 2))) + x7 (ix2 0 (i 2))

/-- A layer's products scaled, shifted and clipped, then multiplied by the next layer's matrix, with its bias. -/
def lay2 (y : Layer) (a s : Chan) (w : Vec Ideal S256x256 .f32) (d : Chan) : Layer := fun i =>
  (∑ k : Fin 256, max (y (ix3 (i 0) (i 1) k) * a (ix2 0 k) + s (ix2 0 k)) 0 * w (ix2 k (i 2))) + d (ix2 0 (i 2))

/-- The `r`-th point of block `t`. -/
def at512 (t : Fin 8) (r : Fin 512) : Fin 4096 := ⟨t.val * 512 + r.val, by omega⟩

/-- The partial statistics of every block of 512 points. -/
def parts (y : Layer) : Vec Ideal S16x8x8x256 .f32 := fun i => stat (i 2) fun r => y (ix3 (i 0) (at512 (i 1) r) (i 3))

/-- The scale of every channel, from the gathered statistics and the gains. -/
def scales (v : Vec Ideal S1024x256 .f32) (g : Chan) : Chan := fun i =>
  BN.scale (sum0 fun r => v (ix2 r (i 1))) (sum1 fun r => v (ix2 r (i 1))) (g (ix2 0 (i 1)))

/-- The shift of every channel, from the gathered statistics, the gains and the biases. -/
def shifts (v : Vec Ideal S1024x256 .f32) (g be : Chan) : Chan := fun i =>
  BN.shift (sum0 fun r => v (ix2 r (i 1))) (sum1 fun r => v (ix2 r (i 1))) (g (ix2 0 (i 1))) (be (ix2 0 (i 1)))

/-- A layer's products scaled, shifted and clipped, with points and channels exchanged. -/
def outT (y : Layer) (a s : Chan) : Vec Ideal S16x256x4096 .f32 := fun i =>
  max (y (ix3 (i 0) (i 2) (i 1)) * a (ix2 0 (i 1)) + s (ix2 0 (i 1))) 0

end Cert.KernelIdeal.KArr

end
-- ==== Proof.KerR0.lean ====
/-
  The first layer's products and their partial statistics, as the first launch leaves them.
-/
module

public import proofs.«01_k».proof.Proof.KerArr
public import Idealize.ShloMosaic.Lib.Pipeline.ValueKit.Point

@[expose] public section

set_option maxRecDepth 16384

noncomputable section

namespace Cert.KernelIdeal.KR0

open Idealize.ShloMosaic Idealize.ShloMosaic.TcCoe Cert.KernelIdeal Cert.KernelIdeal.Gen
open Cert.KernelIdeal.KPay Cert.KernelIdeal.KArr
open Idealize.ShloMosaic.Pipeline (Dat Cfg Window)

variable (V : (c : Dev nD) → (b : Ref sig .tc) → Buf (Elt Ideal) ((c : Thread nD τ).loc b))

theorem ixw0 : ∀ t : Fin cfg0.N, win0_0.index t = ![(grid0.coords t 0).val, (grid0.coords t 1).val, 0] :=
  (by decide +kernel : ∀ t : Fin grid0.N, _)
theorem ixw1 : ∀ t : Fin cfg0.N, win0_1.index t = ![(grid0.coords t 0).val, 0, 0] :=
  (by decide +kernel : ∀ t : Fin grid0.N, _)
theorem ixw2 : ∀ t : Fin cfg0.N, win0_2.index t = ![(grid0.coords t 0).val, 0, 0] :=
  (by decide +kernel : ∀ t : Fin grid0.N, _)
theorem ixw3 : ∀ t : Fin cfg0.N, win0_3.index t = ![(grid0.coords t 0).val, 0, 0] :=
  (by decide +kernel : ∀ t : Fin grid0.N, _)
theorem ixw4 : ∀ t : Fin cfg0.N, win0_4.index t = ![(grid0.coords t 0).val, 0, 0] :=
  (by decide +kernel : ∀ t : Fin grid0.N, _)
theorem ixw5 : ∀ t : Fin cfg0.N, win0_5.index t = ![(grid0.coords t 0).val, (grid0.coords t 1).val, 0] :=
  (by decide +kernel : ∀ t : Fin grid0.N, _)
theorem ixw6 : ∀ t : Fin cfg0.N, win0_6.index t = ![0, 0] :=
  (by decide +kernel : ∀ t : Fin grid0.N, _)
theorem ixw7 : ∀ t : Fin cfg0.N, win0_7.index t = ![0, 0] :=
  (by decide +kernel : ∀ t : Fin grid0.N, _)
theorem ixw8 : ∀ t : Fin cfg0.N, win0_8.index t = ![(grid0.coords t 0).val, (grid0.coords t 1).val, 0] :=
  (by decide +kernel : ∀ t : Fin grid0.N, _)
theorem ixw9 : ∀ t : Fin cfg0.N, win0_9.index t = ![(grid0.coords t 0).val, (grid0.coords t 1).val, 0, 0] :=
  (by decide +kernel : ∀ t : Fin grid0.N, _)

/-- A block's batch. -/
def bq (t : Fin cfg0.N) : Fin 16 := grid0.coords t 0
/-- A block's place among the blocks of its batch. -/
def tq (t : Fin cfg0.N) : Fin 8 := grid0.coords t 1

theorem blk0 (c : Dev nD) (t : Fin cfg0.N) (r : Fin 512) (c' : Fin 3) :
    iblk0 V c 0 t (ix3 0 r c') = V c main_v0 (ix3 (bq t) (at512 (tq t) r) c') := by
  unfold bq tq at512
  blk_ext! [iblk0, ixw0 t]
theorem blk1 (c : Dev nD) (t : Fin cfg0.N) (k : Fin 3) (j : Fin 1024) :
    iblk0 V c 1 t (ix3 0 k j) = V c main_arg1 (ix3 (bq t) k j) := by
  unfold bq
  blk_ext! [iblk0, ixw1 t]
theorem blk2 (c : Dev nD) (t : Fin cfg0.N) (k : Fin 4) (j : Fin 1024) :
    iblk0 V c 2 t (ix3 0 k j) = V c main_v3 (ix3 (bq t) k j) := by
  unfold bq
  blk_ext! [iblk0, ixw2 t]
theorem blk3 (c : Dev nD) (t : Fin cfg0.N) (j : Fin 1024) (k : Fin 4) :
    iblk0 V c 3 t (ix3 0 j k) = V c main_arg4 (ix3 (bq t) j k) := by
  unfold bq
  blk_ext! [iblk0, ixw3 t]
theorem blk4 (c : Dev nD) (t : Fin cfg0.N) (j : Fin 1024) (k : Fin 256) :
    iblk0 V c 4 t (ix3 0 j k) = V c main_v2 (ix3 (bq t) j k) := by
  unfold bq
  blk_ext! [iblk0, ixw4 t]
theorem blk5 (c : Dev nD) (t : Fin cfg0.N) (r : Fin 512) (k : Fin 128) :
    iblk0 V c 5 t (ix3 0 r k) = V c main_v1 (ix3 (bq t) (at512 (tq t) r) k) := by
  unfold bq tq at512
  blk_ext! [iblk0, ixw5 t]
theorem blk6 (c : Dev nD) (t : Fin cfg0.N) (k : Fin 388) (o : Fin 256) :
    iblk0 V c 6 t (ix2 k o) = V c main_v4 (ix2 k o) := by
  blk_ext! [iblk0, ixw6 t]
theorem blk7 (c : Dev nD) (t : Fin cfg0.N) (z : Fin 1) (o : Fin 256) :
    iblk0 V c 7 t (ix2 z o) = V c main_v6 (ix2 z o) := by
  blk_ext! [iblk0, ixw7 t]

/-- Where block `t`'s products lie in their array. -/
theorem emb8 (t : Fin cfg0.N) (z : Fin 1) (r : Fin 512) (o : Fin 256) :
    ((cfg0.win 8).blk t).view.emb (ix3 z r o) = ix3 (bq t) (at512 (tq t) r) o := by
  unfold bq tq at512
  blk_ext [ixw8 t]

/-- Where block `t`'s partial statistics lie in their array. -/
theorem emb9 (t : Fin cfg0.N) (z z' : Fin 1) (e : Fin 8) (o : Fin 256) :
    ((cfg0.win 9).blk t).view.emb (ix4 z z' e o) = ix4 (bq t) (tq t) e o := by
  unfold bq tq
  blk_ext [ixw9 t]

/-- A block's product, from the block's operands. -/
def prod (x0 : Vec Ideal S1x512x3 .f32) (x1 : Vec Ideal S1x3x1024 .f32) (x2 : Vec Ideal S1x4x1024 .f32) (x3 : Vec Ideal S1x1024x4 .f32)
    (x4 : Vec Ideal S1x1024x256 .f32) (x5 : Vec Ideal S1x512x128 .f32) (x6 : Vec Ideal S388x256 .f32) (x7 : Chan) (r : Fin 512) (o : Fin 256) : EReal :=
  (∑ k : Fin 388, Spec.feature (fun j => x5 (ix3 0 r j)) (KNear.drow x0 x1 r) (fun j c => x4 (ix3 0 j c))
      (KNear.grow x0 x2 r) (fun j c => x3 (ix3 0 j c)) k * x6 (ix2 k o)) + x7 (ix2 0 o)

theorem out_lay (x0 : Vec Ideal S1x512x3 .f32) (x1 : Vec Ideal S1x3x1024 .f32) (x2 : Vec Ideal S1x4x1024 .f32) (x3 : Vec Ideal S1x1024x4 .f32)
    (x4 : Vec Ideal S1x1024x256 .f32) (x5 : Vec Ideal S1x512x128 .f32) (x6 : Vec Ideal S388x256 .f32) (x7 : Chan)
    (hf : ∀ r j, KNear.drow x0 x1 r j < ⊤) (z : Fin 1) (r : Fin 512) (o : Fin 256) :
    out0_8 (F := Ideal) x0 x1 x2 x3 x4 x5 x6 x7 (ix3 z r o) = prod x0 x1 x2 x3 x4 x5 x6 x7 r o := by
  have e : out0_8 (F := Ideal) x0 x1 x2 x3 x4 x5 x6 x7
      = k0_pay2 (k0_pay14 (k0_pay5 x0) (k0_pay6 x0) KNear.pos (KNear.wmat x0 x1) (k0_pay13 x4)
          (constant S512x256 .f32 0x00000000#32) x2 x3 x5 x6) x7 := by
    unfold_out out0_8
    frame_out
  rw [e, pay2_apply, KNear.pay14_apply x0 x1 x2 x3 x4 x5 x6 r o (hf r)]
  rfl

theorem out_parts (x0 : Vec Ideal S1x512x3 .f32) (x1 : Vec Ideal S1x3x1024 .f32) (x2 : Vec Ideal S1x4x1024 .f32) (x3 : Vec Ideal S1x1024x4 .f32)
    (x4 : Vec Ideal S1x1024x256 .f32) (x5 : Vec Ideal S1x512x128 .f32) (x6 : Vec Ideal S388x256 .f32) (x7 : Chan)
    (hf : ∀ r j, KNear.drow x0 x1 r j < ⊤) (z z' : Fin 1) (e : Fin 8) (o : Fin 256) :
    out0_9 (F := Ideal) x0 x1 x2 x3 x4 x5 x6 x7 (ix4 z z' e o) = stat e fun r => prod x0 x1 x2 x3 x4 x5 x6 x7 r o := by
  have h : out0_9 (F := Ideal) x0 x1 x2 x3 x4 x5 x6 x7
      = k0_pay3 (k0_pay14 (k0_pay5 x0) (k0_pay6 x0) KNear.pos (KNear.wmat x0 x1) (k0_pay13 x4)
          (constant S512x256 .f32 0x00000000#32) x2 x3 x5 x6) x7 := by
    unfold_out out0_9
    frame_out
  rw [h, pay3_apply]
  refine congrArg (stat e) (funext fun r => ?_)
  rw [KNear.pay14_apply x0 x1 x2 x3 x4 x5 x6 r o (hf r)]
  rfl

theorem drow_blk (c : Dev nD) (t : Fin cfg0.N) (r : Fin 512) :
    KNear.drow (iblk0 V c 0 t) (iblk0 V c 1 t) r = dRow (V c main_v0) (V c main_arg1) (bq t) (at512 (tq t) r) :=
  funext fun j => congrArg₂ Spec.dist (funext fun k => blk0 V c t r k) (funext fun k => blk1 V c t k j)

theorem grow_blk (c : Dev nD) (t : Fin cfg0.N) (r : Fin 512) :
    KNear.grow (iblk0 V c 0 t) (iblk0 V c 2 t) r = gRow (V c main_v0) (V c main_v3) (bq t) (at512 (tq t) r) :=
  funext fun j => congrArg₂ Spec.dist (funext fun k => blk0 V c t r k) (funext fun k => blk2 V c t _ j)

/-- A block's product is the layer's at its place. -/
theorem prod_blk (c : Dev nD) (t : Fin cfg0.N) (r : Fin 512) (o : Fin 256) :
    prod (iblk0 V c 0 t) (iblk0 V c 1 t) (iblk0 V c 2 t) (iblk0 V c 3 t) (iblk0 V c 4 t) (iblk0 V c 5 t) (iblk0 V c 6 t) (iblk0 V c 7 t) r o
      = lay1 (V c main_v0) (V c main_arg1) (V c main_v3) (V c main_arg4) (V c main_v2) (V c main_v1) (V c main_v4) (V c main_v6)
          (ix3 (bq t) (at512 (tq t) r) o) := by
  unfold prod lay1
  rw [drow_blk, grow_blk]
  refine congrArg₂ (· + ·) (Finset.sum_congr rfl fun k _ => congrArg₂ (· * ·) ?_ (blk6 V c t k o)) (blk7 V c t 0 o)
  rw [funext fun j => blk5 V c t r j, funext fun j => funext fun k => blk4 V c t j k, funext fun j => funext fun k => blk3 V c t j k]
  rfl

/-- The first launch's first array: the first layer's products, where the distances are finite. -/
theorem final_lay (c : Dev nD) (hf : ∀ b n j, dRow (V c main_v0) (V c main_arg1) b n j < ⊤) :
    (dat0 V c).arrAt 8 cfg0.N
      = lay1 (V c main_v0) (V c main_arg1) (V c main_v3) (V c main_arg4) (V c main_v2) (V c main_v1) (V c main_v4) (V c main_v6) := by
  refine (dat0 V c).arrAt_eq_of_covers 8 _ (by decide +kernel) fun t _ y => ?_
  blk_simp
  rw [after0_8]
  suffices h : ∀ (z : Fin 1) (r : Fin 512) (o : Fin 256),
      out0_8 (F := Ideal) (iblk0 V c 0 t) (iblk0 V c 1 t) (iblk0 V c 2 t) (iblk0 V c 3 t) (iblk0 V c 4 t) (iblk0 V c 5 t) (iblk0 V c 6 t) (iblk0 V c 7 t) (ix3 z r o)
        = lay1 (V c main_v0) (V c main_arg1) (V c main_v3) (V c main_arg4) (V c main_v2) (V c main_v1) (V c main_v4) (V c main_v6)
            (((cfg0.win 8).blk t).view.emb (ix3 z r o)) from (eq_ix3 y) ▸ h _ _ _
  intro z r o
  rw [out_lay _ _ _ _ _ _ _ _ (fun r j => by rw [drow_blk]; exact hf _ _ _), emb8, prod_blk]

/-- The first launch's second array: the partial statistics of the first layer's products. -/
theorem final_parts (c : Dev nD) (hf : ∀ b n j, dRow (V c main_v0) (V c main_arg1) b n j < ⊤) :
    (dat0 V c).arrAt 9 cfg0.N
      = parts (lay1 (V c main_v0) (V c main_arg1) (V c main_v3) (V c main_arg4) (V c main_v2) (V c main_v1) (V c main_v4) (V c main_v6)) := by
  refine (dat0 V c).arrAt_eq_of_covers 9 _ (by decide +kernel) fun t _ y => ?_
  blk_simp
  rw [after0_9]
  suffices h : ∀ (z z' : Fin 1) (e : Fin 8) (o : Fin 256),
      out0_9 (F := Ideal) (iblk0 V c 0 t) (iblk0 V c 1 t) (iblk0 V c 2 t) (iblk0 V c 3 t) (iblk0 V c 4 t) (iblk0 V c 5 t) (iblk0 V c 6 t) (iblk0 V c 7 t) (ix4 z z' e o)
        = parts (lay1 (V c main_v0) (V c main_arg1) (V c main_v3) (V c main_arg4) (V c main_v2) (V c main_v1) (V c main_v4) (V c main_v6))
            (((cfg0.win 9).blk t).view.emb (ix4 z z' e o)) from (eq_ix4 y) ▸ h _ _ _ _
  intro z z' e o
  rw [out_parts _ _ _ _ _ _ _ _ (fun r j => by rw [drow_blk]; exact hf _ _ _), emb9]
  exact congrArg (stat e) (funext fun r => prod_blk V c t r o)

end Cert.KernelIdeal.KR0

end
-- ==== Proof.KerR1.lean ====
/-
  The scale and shift of the first layer's channels, as the second launch leaves them.
-/
module

public import proofs.«01_k».proof.Proof.KerArr
public import Idealize.ShloMosaic.Lib.Pipeline.ValueKit.Point

@[expose] public section

set_option maxRecDepth 16384

noncomputable section

namespace Cert.KernelIdeal.KR1

open Idealize.ShloMosaic Idealize.ShloMosaic.TcCoe Cert.KernelIdeal Cert.KernelIdeal.Gen
open Cert.KernelIdeal.KPay Cert.KernelIdeal.KArr
open Idealize.ShloMosaic.Pipeline (Dat Cfg Window)

variable (V : (c : Dev nD) → (b : Ref sig .tc) → Buf (Elt Ideal) ((c : Thread nD τ).loc b))

theorem out_scale (x0 : Vec Ideal S1024x256 .f32) (x1 x2 : Chan) : out1_3 (F := Ideal) x0 x1 x2 = scales x0 x1 := by
  have e : out1_3 (F := Ideal) x0 x1 x2 = k1_pay2 (k1_pay4 x0) (k1_pay5 x0) k1_pay6 k1_pay7 x1 := by
    unfold_out out1_3
    frame_out
  rw [e]
  funext y
  suffices h : ∀ (z : Fin 1) (o : Fin 256),
      k1_pay2 (k1_pay4 x0) (k1_pay5 x0) k1_pay6 k1_pay7 x1 (ix2 z o) = scales x0 x1 (ix2 z o) from (eq_ix2 y) ▸ h _ _
  intro z o
  rw [k1_pay2_apply, Subsingleton.elim z 0]
  rfl

theorem out_shift (x0 : Vec Ideal S1024x256 .f32) (x1 x2 : Chan) : out1_4 (F := Ideal) x0 x1 x2 = shifts x0 x1 x2 := by
  have e : out1_4 (F := Ideal) x0 x1 x2 = k1_pay3 (k1_pay4 x0) (k1_pay5 x0) k1_pay6 k1_pay7 x1 x2 := by
    unfold_out out1_4
    frame_out
  rw [e]
  funext y
  suffices h : ∀ (z : Fin 1) (o : Fin 256),
      k1_pay3 (k1_pay4 x0) (k1_pay5 x0) k1_pay6 k1_pay7 x1 x2 (ix2 z o) = shifts x0 x1 x2 (ix2 z o) from (eq_ix2 y) ▸ h _ _
  intro z o
  rw [k1_pay3_apply, Subsingleton.elim z 0]
  rfl

theorem ixw0 : ∀ t : Fin cfg1.N, win1_0.index t = ![0, 0] := (by decide +kernel : ∀ t : Fin grid1.N, _)
theorem ixw1 : ∀ t : Fin cfg1.N, win1_1.index t = ![0, 0] := (by decide +kernel : ∀ t : Fin grid1.N, _)
theorem ixw2 : ∀ t : Fin cfg1.N, win1_2.index t = ![0, 0] := (by decide +kernel : ∀ t : Fin grid1.N, _)
theorem ixw3 : ∀ t : Fin cfg1.N, win1_3.index t = ![0, 0] := (by decide +kernel : ∀ t : Fin grid1.N, _)
theorem ixw4 : ∀ t : Fin cfg1.N, win1_4.index t = ![0, 0] := (by decide +kernel : ∀ t : Fin grid1.N, _)

theorem blk0 (c : Dev nD) (t : Fin cfg1.N) : iblk1 V c 0 t = V c main_v10 := by
  funext y
  blk_ext! [iblk1, ixw0 t]
theorem blk1 (c : Dev nD) (t : Fin cfg1.N) : iblk1 V c 1 t = V c main_v11 := by
  funext y
  blk_ext! [iblk1, ixw1 t]
theorem blk2 (c : Dev nD) (t : Fin cfg1.N) : iblk1 V c 2 t = V c main_v12 := by
  funext y
  blk_ext! [iblk1, ixw2 t]

theorem emb3 (t : Fin cfg1.N) (y : S1x256.Idx) : ((cfg1.win 3).blk t).view.emb y = y := by blk_ext [ixw3 t]
theorem emb4 (t : Fin cfg1.N) (y : S1x256.Idx) : ((cfg1.win 4).blk t).view.emb y = y := by blk_ext [ixw4 t]

/-- The launch's first array: the scale of every channel. -/
theorem final_scale (c : Dev nD) : (dat1 V c).arrAt 3 cfg1.N = scales (V c main_v10) (V c main_v11) := by
  refine (dat1 V c).arrAt_eq_of_covers 3 _ (by decide +kernel) fun t hf y => ?_
  refine Eq.trans ?_ (congrArg (scales (V c main_v10) (V c main_v11)) (emb3 t y)).symm
  blk_simp
  rw [after1_3, out_scale, blk0, blk1]

/-- The launch's second array: the shift of every channel. -/
theorem final_shift (c : Dev nD) : (dat1 V c).arrAt 4 cfg1.N = shifts (V c main_v10) (V c main_v11) (V c main_v12) := by
  refine (dat1 V c).arrAt_eq_of_covers 4 _ (by decide +kernel) fun t hf y => ?_
  refine Eq.trans ?_ (congrArg (shifts (V c main_v10) (V c main_v11) (V c main_v12)) (emb4 t y)).symm
  blk_simp
  rw [after1_4, out_shift, blk0, blk1, blk2]

end Cert.KernelIdeal.KR1

end
-- ==== Proof.KerR2.lean ====
/-
  The second layer's products and their partial statistics, as the third launch leaves them.
-/
module

public import proofs.«01_k».proof.Proof.KerArr
public import Idealize.ShloMosaic.Lib.Pipeline.ValueKit.Point

@[expose] public section

set_option maxRecDepth 16384

noncomputable section

namespace Cert.KernelIdeal.KR2

open Idealize.ShloMosaic Idealize.ShloMosaic.TcCoe Cert.KernelIdeal Cert.KernelIdeal.Gen
open Cert.KernelIdeal.KPay Cert.KernelIdeal.KArr
open Idealize.ShloMosaic.Pipeline (Dat Cfg Window)

variable (V : (c : Dev nD) → (b : Ref sig .tc) → Buf (Elt Ideal) ((c : Thread nD τ).loc b))

theorem ix0 : ∀ t : Fin cfg2.N, win2_0.index t = ![(grid2.coords t 0).val, (grid2.coords t 1).val, 0] :=
  (by decide +kernel : ∀ t : Fin grid2.N, _)
theorem ix1 : ∀ t : Fin cfg2.N, win2_1.index t = ![0, 0] := (by decide +kernel : ∀ t : Fin grid2.N, _)
theorem ix2' : ∀ t : Fin cfg2.N, win2_2.index t = ![0, 0] := (by decide +kernel : ∀ t : Fin grid2.N, _)
theorem ix3' : ∀ t : Fin cfg2.N, win2_3.index t = ![0, 0] := (by decide +kernel : ∀ t : Fin grid2.N, _)
theorem ix4' : ∀ t : Fin cfg2.N, win2_4.index t = ![0, 0] := (by decide +kernel : ∀ t : Fin grid2.N, _)
theorem ix5 : ∀ t : Fin cfg2.N, win2_5.index t = ![(grid2.coords t 0).val, (grid2.coords t 1).val, 0] :=
  (by decide +kernel : ∀ t : Fin grid2.N, _)
theorem ix6 : ∀ t : Fin cfg2.N, win2_6.index t = ![(grid2.coords t 0).val, (grid2.coords t 1).val, 0, 0] :=
  (by decide +kernel : ∀ t : Fin grid2.N, _)

/-- The launch's first array: the second layer's products. -/
theorem final_lay (c : Dev nD) :
    (dat2 V c).arrAt 5 cfg2.N = lay2 (V c main_v9_0) (V c main_v14_0) (V c main_v14_1) (V c main_v5) (V c main_v7) := by
  refine (dat2 V c).arrAt_eq_of_covers 5 _ (by decide +kernel) fun t hf y => ?_
  blk_simp
  rw [after2_5]
  frame_out
  suffices h : ∀ (z : Fin 1) (r : Fin 512) (o : Fin 256),
      k2_pay2 (F := Ideal) (iblk2 V c 0 t) (iblk2 V c 1 t) (iblk2 V c 2 t) (iblk2 V c 3 t) (iblk2 V c 4 t) (ix3 z r o)
        = lay2 (V c main_v9_0) (V c main_v14_0) (V c main_v14_1) (V c main_v5) (V c main_v7)
            (((cfg2.win 5).blk t).view.emb (ix3 z r o)) from (eq_ix3 y) ▸ h _ _ _
  intro z r o
  rw [k2_pay2_apply]
  unfold lay2
  blk_point [iblk2, ix0 t, ix1 t, ix2' t, ix3' t, ix4' t, ix5 t]

/-- A block's batch. -/
def bq (t : Fin cfg2.N) : Fin 16 := grid2.coords t 0
/-- A block's place among the blocks of its batch. -/
def tq (t : Fin cfg2.N) : Fin 8 := grid2.coords t 1

/-- Where block `t`'s partial statistics lie in their array. -/
theorem emb6 (t : Fin cfg2.N) (z z' : Fin 1) (e : Fin 8) (o : Fin 256) :
    ((cfg2.win 6).blk t).view.emb (ix4 z z' e o) = ix4 (bq t) (tq t) e o := by
  unfold bq tq
  blk_ext [ix6 t]

/-- One product of block `t`, at its place in the layer. -/
theorem blkLay (c : Dev nD) (t : Fin cfg2.N) (r : Fin 512) (o : Fin 256) :
    k2_pay2 (F := Ideal) (iblk2 V c 0 t) (iblk2 V c 1 t) (iblk2 V c 2 t) (iblk2 V c 3 t) (iblk2 V c 4 t) (ix3 0 r o)
      = lay2 (V c main_v9_0) (V c main_v14_0) (V c main_v14_1) (V c main_v5) (V c main_v7) (ix3 (bq t) (at512 (tq t) r) o) := by
  rw [k2_pay2_apply]
  unfold lay2 at512 bq tq
  blk_point [iblk2, ix0 t, ix1 t, ix2' t, ix3' t, ix4' t]

/-- A block's partial statistics are those of its products. -/
theorem stat_pay (v0 : Vec Ideal S1x512x256 .f32) (v2 v6 : Chan) (v12 : Vec Ideal S256x256 .f32)
    (v15 : Chan) (z z' : Fin 1) (e : Fin 8) (o : Fin 256) :
    k2_pay3 (F := Ideal) v0 v2 v6 v12 v15 (ix4 z z' e o) = stat e fun r => k2_pay2 (F := Ideal) v0 v2 v6 v12 v15 (ix3 0 r o) := by
  rw [k2_pay3_apply]
  simp only [k2_pay2_apply]

/-- The launch's second array: the partial statistics of the second layer's products. -/
theorem final_parts (c : Dev nD) :
    (dat2 V c).arrAt 6 cfg2.N
      = parts (lay2 (V c main_v9_0) (V c main_v14_0) (V c main_v14_1) (V c main_v5) (V c main_v7)) := by
  refine (dat2 V c).arrAt_eq_of_covers 6 _ (by decide +kernel) fun t hf y => ?_
  blk_simp
  rw [after2_6]
  frame_out
  suffices h : ∀ (z z' : Fin 1) (e : Fin 8) (o : Fin 256),
      k2_pay3 (F := Ideal) (iblk2 V c 0 t) (iblk2 V c 1 t) (iblk2 V c 2 t) (iblk2 V c 3 t) (iblk2 V c 4 t) (ix4 z z' e o)
        = parts (lay2 (V c main_v9_0) (V c main_v14_0) (V c main_v14_1) (V c main_v5) (V c main_v7))
            (((cfg2.win 6).blk t).view.emb (ix4 z z' e o)) from (eq_ix4 y) ▸ h _ _ _ _
  intro z z' e o
  rw [stat_pay, emb6]
  exact congrArg (stat e) (funext fun r => blkLay V c t r o)

end Cert.KernelIdeal.KR2

end
-- ==== Proof.KerR3.lean ====
/-
  The scale and shift of the second layer's channels, as the fourth launch leaves them.
-/
module

public import proofs.«01_k».proof.Proof.KerArr
public import Idealize.ShloMosaic.Lib.Pipeline.ValueKit.Point

@[expose] public section

set_option maxRecDepth 16384

noncomputable section

namespace Cert.KernelIdeal.KR3

open Idealize.ShloMosaic Idealize.ShloMosaic.TcCoe Cert.KernelIdeal Cert.KernelIdeal.Gen
open Cert.KernelIdeal.KPay Cert.KernelIdeal.KArr
open Idealize.ShloMosaic.Pipeline (Dat Cfg Window)

variable (V : (c : Dev nD) → (b : Ref sig .tc) → Buf (Elt Ideal) ((c : Thread nD τ).loc b))

theorem out_scale (x0 : Vec Ideal S1024x256 .f32) (x1 x2 : Chan) : out3_3 (F := Ideal) x0 x1 x2 = scales x0 x1 := by
  have e : out3_3 (F := Ideal) x0 x1 x2 = k3_pay2 (k3_pay4 x0) (k3_pay5 x0) k3_pay6 k3_pay7 x1 := by
    unfold_out out3_3
    frame_out
  rw [e]
  funext y
  suffices h : ∀ (z : Fin 1) (o : Fin 256),
      k3_pay2 (k3_pay4 x0) (k3_pay5 x0) k3_pay6 k3_pay7 x1 (ix2 z o) = scales x0 x1 (ix2 z o) from (eq_ix2 y) ▸ h _ _
  intro z o
  rw [k3_pay2_apply, Subsingleton.elim z 0]
  rfl

theorem out_shift (x0 : Vec Ideal S1024x256 .f32) (x1 x2 : Chan) : out3_4 (F := Ideal) x0 x1 x2 = shifts x0 x1 x2 := by
  have e : out3_4 (F := Ideal) x0 x1 x2 = k3_pay3 (k3_pay4 x0) (k3_pay5 x0) k3_pay6 k3_pay7 x1 x2 := by
    unfold_out out3_4
    frame_out
  rw [e]
  funext y
  suffices h : ∀ (z : Fin 1) (o : Fin 256),
      k3_pay3 (k3_pay4 x0) (k3_pay5 x0) k3_pay6 k3_pay7 x1 x2 (ix2 z o) = shifts x0 x1 x2 (ix2 z o) from (eq_ix2 y) ▸ h _ _
  intro z o
  rw [k3_pay3_apply, Subsingleton.elim z 0]
  rfl

theorem ixw0 : ∀ t : Fin cfg3.N, win3_0.index t = ![0, 0] := (by decide +kernel : ∀ t : Fin grid3.N, _)
theorem ixw1 : ∀ t : Fin cfg3.N, win3_1.index t = ![0, 0] := (by decide +kernel : ∀ t : Fin grid3.N, _)
theorem ixw2 : ∀ t : Fin cfg3.N, win3_2.index t = ![0, 0] := (by decide +kernel : ∀ t : Fin grid3.N, _)
theorem ixw3 : ∀ t : Fin cfg3.N, win3_3.index t = ![0, 0] := (by decide +kernel : ∀ t : Fin grid3.N, _)
theorem ixw4 : ∀ t : Fin cfg3.N, win3_4.index t = ![0, 0] := (by decide +kernel : ∀ t : Fin grid3.N, _)

theorem blk0 (c : Dev nD) (t : Fin cfg3.N) : iblk3 V c 0 t = V c main_v17 := by
  funext y
  blk_ext! [iblk3, ixw0 t]
theorem blk1 (c : Dev nD) (t : Fin cfg3.N) : iblk3 V c 1 t = V c main_v18 := by
  funext y
  blk_ext! [iblk3, ixw1 t]
theorem blk2 (c : Dev nD) (t : Fin cfg3.N) : iblk3 V c 2 t = V c main_v19 := by
  funext y
  blk_ext! [iblk3, ixw2 t]

theorem emb3 (t : Fin cfg3.N) (y : S1x256.Idx) : ((cfg3.win 3).blk t).view.emb y = y := by blk_ext [ixw3 t]
theorem emb4 (t : Fin cfg3.N) (y : S1x256.Idx) : ((cfg3.win 4).blk t).view.emb y = y := by blk_ext [ixw4 t]

/-- The launch's first array: the scale of every channel. -/
theorem final_scale (c : Dev nD) : (dat3 V c).arrAt 3 cfg3.N = scales (V c main_v17) (V c main_v18) := by
  refine (dat3 V c).arrAt_eq_of_covers 3 _ (by decide +kernel) fun t hf y => ?_
  refine Eq.trans ?_ (congrArg (scales (V c main_v17) (V c main_v18)) (emb3 t y)).symm
  blk_simp
  rw [after3_3, out_scale, blk0, blk1]

/-- The launch's second array: the shift of every channel. -/
theorem final_shift (c : Dev nD) : (dat3 V c).arrAt 4 cfg3.N = shifts (V c main_v17) (V c main_v18) (V c main_v19) := by
  refine (dat3 V c).arrAt_eq_of_covers 4 _ (by decide +kernel) fun t hf y => ?_
  refine Eq.trans ?_ (congrArg (shifts (V c main_v17) (V c main_v18) (V c main_v19)) (emb4 t y)).symm
  blk_simp
  rw [after3_4, out_shift, blk0, blk1, blk2]

end Cert.KernelIdeal.KR3

end
-- ==== Proof.KerR4.lean ====
/-
  The last launch's result, entry by entry: the second layer's products, scaled, shifted and clipped at zero, transposed.
-/
module

public import proofs.«01_k».proof.Proof.KerArr
public import Idealize.ShloMosaic.Lib.Pipeline.ValueKit.Point

@[expose] public section

set_option maxRecDepth 16384

noncomputable section

namespace Cert.KernelIdeal.KR4

open Idealize.ShloMosaic Idealize.ShloMosaic.TcCoe Cert.KernelIdeal Cert.KernelIdeal.Gen
open Cert.KernelIdeal.KPay Cert.KernelIdeal.KArr
open Idealize.ShloMosaic.Pipeline (Dat Cfg Window)

variable (V : (c : Dev nD) → (b : Ref sig .tc) → Buf (Elt Ideal) ((c : Thread nD τ).loc b))

theorem ix0 : ∀ t : Fin cfg4.N, win4_0.index t = ![(grid4.coords t 0).val, (grid4.coords t 1).val, 0] :=
  (by decide +kernel : ∀ t : Fin grid4.N, _)
theorem ix1 : ∀ t : Fin cfg4.N, win4_1.index t = ![0, 0] := (by decide +kernel : ∀ t : Fin grid4.N, _)
theorem ix2' : ∀ t : Fin cfg4.N, win4_2.index t = ![0, 0] := (by decide +kernel : ∀ t : Fin grid4.N, _)
theorem ix3' : ∀ t : Fin cfg4.N, win4_3.index t = ![(grid4.coords t 0).val, 0, (grid4.coords t 1).val] :=
  (by decide +kernel : ∀ t : Fin grid4.N, _)

/-- The last launch's array: its operand scaled, shifted, clipped and transposed. -/
theorem final (c : Dev nD) :
    (dat4 V c).arrAt 3 cfg4.N = outT (V c main_v16_0) (V c main_v21_0) (V c main_v21_1) := by
  refine (dat4 V c).arrAt_eq_of_covers 3 _ (by decide +kernel) fun t hf y => ?_
  blk_simp
  rw [after4_3]
  frame_out
  suffices h : ∀ (z : Fin 1) (o : Fin 256) (r : Fin 512),
      k4_pay1 (F := Ideal) (iblk4 V c 0 t) (iblk4 V c 1 t) (iblk4 V c 2 t) (ix3 z o r)
        = outT (V c main_v16_0) (V c main_v21_0) (V c main_v21_1) (((cfg4.win 3).blk t).view.emb (ix3 z o r)) from
    (eq_ix3 y) ▸ h _ _ _
  intro z o r
  rw [k4_pay1_apply]
  unfold outT
  blk_point [iblk4, ix0 t, ix1 t, ix2' t, ix3' t]

end Cert.KernelIdeal.KR4

end
-- ==== Proof.KerChain.lean ====
/-
  The kernel's run, boundary by boundary: what every launch finds in its operands and leaves in its arrays, down to the result.
-/
module

public import proofs.«01_k».proof.Proof.KerR0
public import proofs.«01_k».proof.Proof.KerR1
public import proofs.«01_k».proof.Proof.KerR2
public import proofs.«01_k».proof.Proof.KerR3
public import proofs.«01_k».proof.Proof.KerR4

@[expose] public section

set_option maxRecDepth 16384

noncomputable section

namespace Cert.KernelIdeal.KChain

open Idealize.ShloMosaic Idealize.ShloMosaic.TcCoe Cert.KernelIdeal Cert.KernelIdeal.Gen
open Cert.KernelIdeal.KPay Cert.KernelIdeal.KArr

variable (m : (ℓ : Loc nD τ sig) → Buf (Elt Ideal) ℓ) (ρ : Dev nD → PrngReg) (c : Dev nD)

theorem V1_v0 : V1 m ρ c main_v0 = (transpose (α := EReal) S16x4096x3 [0, 2, 1] · transposes_S16x3x4096_S16x4096x3_0_2_1) (m ((c : Thread nD τ).loc main_arg0)) := by
  show StableHlo.after hostOps0 (W0 m ρ c) (Proc.devRef .tc main_v0) = _
  after_results
  try rfl
theorem V1_v1 : V1 m ρ c main_v1 = (transpose (α := EReal) S16x4096x128 [0, 2, 1] · transposes_S16x128x4096_S16x4096x128_0_2_1) (m ((c : Thread nD τ).loc main_arg2)) := by
  show StableHlo.after hostOps0 (W0 m ρ c) (Proc.devRef .tc main_v1) = _
  after_results
  try rfl
theorem V1_v2 : V1 m ρ c main_v2 = (transpose (α := EReal) S16x1024x256 [0, 2, 1] · transposes_S16x256x1024_S16x1024x256_0_2_1) (m ((c : Thread nD τ).loc main_arg3)) := by
  show StableHlo.after hostOps0 (W0 m ρ c) (Proc.devRef .tc main_v2) = _
  after_results
  try rfl
theorem V1_v3 : V1 m ρ c main_v3 = (transpose (α := EReal) S16x4x1024 [0, 2, 1] · transposes_S16x1024x4_S16x4x1024_0_2_1) (m ((c : Thread nD τ).loc main_arg4)) := by
  show StableHlo.after hostOps0 (W0 m ρ c) (Proc.devRef .tc main_v3) = _
  after_results
  try rfl
theorem V1_v4 : V1 m ρ c main_v4 = (transpose (α := EReal) S388x256 [1, 0] · transposes_S256x388_S388x256_1_0) (m ((c : Thread nD τ).loc main_arg5)) := by
  show StableHlo.after hostOps0 (W0 m ρ c) (Proc.devRef .tc main_v4) = _
  after_results
  try rfl
theorem V1_v5 : V1 m ρ c main_v5 = (transpose (α := EReal) S256x256 [1, 0] · transposes_S256x256_S256x256_1_0) (m ((c : Thread nD τ).loc main_arg9)) := by
  show StableHlo.after hostOps0 (W0 m ρ c) (Proc.devRef .tc main_v5) = _
  after_results
  try rfl
theorem V1_v6 : V1 m ρ c main_v6 = (shapeCast (α := EReal) S1x256 · shapeCasts_S256_S1x256) (m ((c : Thread nD τ).loc main_arg6)) := by
  show StableHlo.after hostOps0 (W0 m ρ c) (Proc.devRef .tc main_v6) = _
  after_results
  try rfl
theorem V1_v7 : V1 m ρ c main_v7 = (shapeCast (α := EReal) S1x256 · shapeCasts_S256_S1x256) (m ((c : Thread nD τ).loc main_arg10)) := by
  show StableHlo.after hostOps0 (W0 m ρ c) (Proc.devRef .tc main_v7) = _
  after_results
  try rfl
theorem V1_arg1 : V1 m ρ c main_arg1 = m ((c : Thread nD τ).loc main_arg1) := W1_args m ρ c _ (by decide)
theorem V1_arg4 : V1 m ρ c main_arg4 = m ((c : Thread nD τ).loc main_arg4) := W1_args m ρ c _ (by decide)

/-- The first layer's products, from the contents at the first launch. -/
abbrev Y1 : Layer :=
  lay1 (V1 m ρ c main_v0) (V1 m ρ c main_arg1) (V1 m ρ c main_v3) (V1 m ρ c main_arg4) (V1 m ρ c main_v2) (V1 m ρ c main_v1) (V1 m ρ c main_v4) (V1 m ρ c main_v6)

theorem W2_lay (hf : ∀ b n j, dRow (V1 m ρ c main_v0) (V1 m ρ c main_arg1) b n j < ⊤) :
    W2 m ρ c (Proc.devRef .tc main_v8_0) = Y1 m ρ c :=
  (W2_arr m ρ c 8).trans (KR0.final_lay (V1 m ρ) c hf)
theorem W2_parts (hf : ∀ b n j, dRow (V1 m ρ c main_v0) (V1 m ρ c main_arg1) b n j < ⊤) :
    W2 m ρ c (Proc.devRef .tc main_v8_1) = parts (Y1 m ρ c) :=
  (W2_arr m ρ c 9).trans (KR0.final_parts (V1 m ρ) c hf)

/-- The partial statistics of the blocks, one under another. -/
abbrev stack (p : Vec Ideal S16x8x8x256 .f32) : Vec Ideal S1024x256 .f32 := shapeCast (α := EReal) S1024x256 p shapeCasts_S16x8x8x256_S1024x256
/-- A vector of channels as one row. -/
abbrev chan (p : Vec Ideal S256 .f32) : Chan := shapeCast (α := EReal) S1x256 p shapeCasts_S256_S1x256

theorem V3_v9_0 (hf : ∀ b n j, dRow (V1 m ρ c main_v0) (V1 m ρ c main_arg1) b n j < ⊤) : V3 m ρ c main_v9_0 = Y1 m ρ c := by
  rw [← W2_lay m ρ c hf]
  show StableHlo.after hostOps1 (W2 m ρ c) (Proc.devRef .tc main_v9_0) = _
  after_results
  try rfl
theorem V3_v10 (hf : ∀ b n j, dRow (V1 m ρ c main_v0) (V1 m ρ c main_arg1) b n j < ⊤) : V3 m ρ c main_v10 = stack (parts (Y1 m ρ c)) := by
  rw [← W2_parts m ρ c hf]
  show StableHlo.after hostOps1 (W2 m ρ c) (Proc.devRef .tc main_v10) = _
  after_results
  try rfl
theorem V3_v11 : V3 m ρ c main_v11 = chan (m ((c : Thread nD τ).loc main_arg7)) := by
  rw [← W2_args m ρ c main_arg7 (by decide)]
  show StableHlo.after hostOps1 (W2 m ρ c) (Proc.devRef .tc main_v11) = _
  after_results
  try rfl
theorem V3_v12 : V3 m ρ c main_v12 = chan (m ((c : Thread nD τ).loc main_arg8)) := by
  rw [← W2_args m ρ c main_arg8 (by decide)]
  show StableHlo.after hostOps1 (W2 m ρ c) (Proc.devRef .tc main_v12) = _
  after_results
  try rfl

/-- The first layer's scale and shift. -/
abbrev A1 : Chan := scales (stack (parts (Y1 m ρ c))) (chan (m ((c : Thread nD τ).loc main_arg7)))
abbrev S1 : Chan := shifts (stack (parts (Y1 m ρ c))) (chan (m ((c : Thread nD τ).loc main_arg7))) (chan (m ((c : Thread nD τ).loc main_arg8)))

theorem W4_scale (hf : ∀ b n j, dRow (V1 m ρ c main_v0) (V1 m ρ c main_arg1) b n j < ⊤) : W4 m ρ c (Proc.devRef .tc main_v13_0) = A1 m ρ c := by
  refine ((W4_arr m ρ c 3).trans (KR1.final_scale (V3 m ρ) c)).trans ?_
  rw [V3_v10 m ρ c hf, V3_v11]
theorem W4_shift (hf : ∀ b n j, dRow (V1 m ρ c main_v0) (V1 m ρ c main_arg1) b n j < ⊤) : W4 m ρ c (Proc.devRef .tc main_v13_1) = S1 m ρ c := by
  refine ((W4_arr m ρ c 4).trans (KR1.final_shift (V3 m ρ) c)).trans ?_
  rw [V3_v10 m ρ c hf, V3_v11, V3_v12]

theorem V5_scale (hf : ∀ b n j, dRow (V1 m ρ c main_v0) (V1 m ρ c main_arg1) b n j < ⊤) : V5 m ρ c main_v14_0 = A1 m ρ c := by
  rw [← W4_scale m ρ c hf]
  show StableHlo.after hostOps2 (W4 m ρ c) (Proc.devRef .tc main_v14_0) = _
  after_results
  try rfl
theorem V5_shift (hf : ∀ b n j, dRow (V1 m ρ c main_v0) (V1 m ρ c main_arg1) b n j < ⊤) : V5 m ρ c main_v14_1 = S1 m ρ c := by
  rw [← W4_shift m ρ c hf]
  show StableHlo.after hostOps2 (W4 m ρ c) (Proc.devRef .tc main_v14_1) = _
  after_results
  try rfl
theorem V5_v9_0 (hf : ∀ b n j, dRow (V1 m ρ c main_v0) (V1 m ρ c main_arg1) b n j < ⊤) : V5 m ρ c main_v9_0 = Y1 m ρ c :=
  ((W5_of m ρ c main_v9_0 (by decide +kernel)).trans (W4_of m ρ c main_v9_0 (by decide +kernel))).trans (V3_v9_0 m ρ c hf)

/-- A buffer neither the first two launches nor the operations after them write. -/
theorem V5_keep (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false) (h3 : r ∉ hostOps2_W) :
    V5 m ρ c r = V1 m ρ c r :=
  (W5_of m ρ c r h3).trans ((W4_of m ρ c r h2).trans ((W3_of m ρ c r h1).trans (W2_of m ρ c r h0)))
theorem V5_v5 : V5 m ρ c main_v5 = V1 m ρ c main_v5 :=
  V5_keep m ρ c _ (by decide +kernel) (by decide +kernel) (by decide +kernel) (by decide +kernel)
theorem V5_v7 : V5 m ρ c main_v7 = V1 m ρ c main_v7 :=
  V5_keep m ρ c _ (by decide +kernel) (by decide +kernel) (by decide +kernel) (by decide +kernel)

/-- The second layer's products. -/
abbrev Y2 : Layer := lay2 (Y1 m ρ c) (A1 m ρ c) (S1 m ρ c) (V1 m ρ c main_v5) (V1 m ρ c main_v7)

theorem W6_lay (hf : ∀ b n j, dRow (V1 m ρ c main_v0) (V1 m ρ c main_arg1) b n j < ⊤) : W6 m ρ c (Proc.devRef .tc main_v15_0) = Y2 m ρ c := by
  refine ((W6_arr m ρ c 5).trans (KR2.final_lay (V5 m ρ) c)).trans ?_
  rw [V5_v9_0 m ρ c hf, V5_scale m ρ c hf, V5_shift m ρ c hf, V5_v5, V5_v7]
theorem W6_parts (hf : ∀ b n j, dRow (V1 m ρ c main_v0) (V1 m ρ c main_arg1) b n j < ⊤) : W6 m ρ c (Proc.devRef .tc main_v15_1) = parts (Y2 m ρ c) := by
  refine ((W6_arr m ρ c 6).trans (KR2.final_parts (V5 m ρ) c)).trans ?_
  rw [V5_v9_0 m ρ c hf, V5_scale m ρ c hf, V5_shift m ρ c hf, V5_v5, V5_v7]

theorem V7_v16_0 (hf : ∀ b n j, dRow (V1 m ρ c main_v0) (V1 m ρ c main_arg1) b n j < ⊤) : V7 m ρ c main_v16_0 = Y2 m ρ c := by
  rw [← W6_lay m ρ c hf]
  show StableHlo.after hostOps3 (W6 m ρ c) (Proc.devRef .tc main_v16_0) = _
  after_results
  try rfl
theorem V7_v17 (hf : ∀ b n j, dRow (V1 m ρ c main_v0) (V1 m ρ c main_arg1) b n j < ⊤) : V7 m ρ c main_v17 = stack (parts (Y2 m ρ c)) := by
  rw [← W6_parts m ρ c hf]
  show StableHlo.after hostOps3 (W6 m ρ c) (Proc.devRef .tc main_v17) = _
  after_results
  try rfl
theorem V7_v18 : V7 m ρ c main_v18 = chan (m ((c : Thread nD τ).loc main_arg11)) := by
  rw [← W6_args m ρ c main_arg11 (by decide)]
  show StableHlo.after hostOps3 (W6 m ρ c) (Proc.devRef .tc main_v18) = _
  after_results
  try rfl
theorem V7_v19 : V7 m ρ c main_v19 = chan (m ((c : Thread nD τ).loc main_arg12)) := by
  rw [← W6_args m ρ c main_arg12 (by decide)]
  show StableHlo.after hostOps3 (W6 m ρ c) (Proc.devRef .tc main_v19) = _
  after_results
  try rfl

/-- The second layer's scale and shift. -/
abbrev A2 : Chan := scales (stack (parts (Y2 m ρ c))) (chan (m ((c : Thread nD τ).loc main_arg11)))
abbrev S2 : Chan := shifts (stack (parts (Y2 m ρ c))) (chan (m ((c : Thread nD τ).loc main_arg11))) (chan (m ((c : Thread nD τ).loc main_arg12)))

theorem W8_scale (hf : ∀ b n j, dRow (V1 m ρ c main_v0) (V1 m ρ c main_arg1) b n j < ⊤) : W8 m ρ c (Proc.devRef .tc main_v20_0) = A2 m ρ c := by
  refine ((W8_arr m ρ c 3).trans (KR3.final_scale (V7 m ρ) c)).trans ?_
  rw [V7_v17 m ρ c hf, V7_v18]
theorem W8_shift (hf : ∀ b n j, dRow (V1 m ρ c main_v0) (V1 m ρ c main_arg1) b n j < ⊤) : W8 m ρ c (Proc.devRef .tc main_v20_1) = S2 m ρ c := by
  refine ((W8_arr m ρ c 4).trans (KR3.final_shift (V7 m ρ) c)).trans ?_
  rw [V7_v17 m ρ c hf, V7_v18, V7_v19]

theorem V9_scale (hf : ∀ b n j, dRow (V1 m ρ c main_v0) (V1 m ρ c main_arg1) b n j < ⊤) : V9 m ρ c main_v21_0 = A2 m ρ c := by
  rw [← W8_scale m ρ c hf]
  show StableHlo.after hostOps4 (W8 m ρ c) (Proc.devRef .tc main_v21_0) = _
  after_results
  try rfl
theorem V9_shift (hf : ∀ b n j, dRow (V1 m ρ c main_v0) (V1 m ρ c main_arg1) b n j < ⊤) : V9 m ρ c main_v21_1 = S2 m ρ c := by
  rw [← W8_shift m ρ c hf]
  show StableHlo.after hostOps4 (W8 m ρ c) (Proc.devRef .tc main_v21_1) = _
  after_results
  try rfl
theorem V9_v16_0 (hf : ∀ b n j, dRow (V1 m ρ c main_v0) (V1 m ρ c main_arg1) b n j < ⊤) : V9 m ρ c main_v16_0 = Y2 m ρ c :=
  ((W9_of m ρ c main_v16_0 (by decide +kernel)).trans (W8_of m ρ c main_v16_0 (by decide +kernel))).trans (V7_v16_0 m ρ c hf)

/-- The result the kernel leaves, where the distances are finite. -/
theorem W10_out (hf : ∀ b n j, dRow (V1 m ρ c main_v0) (V1 m ρ c main_arg1) b n j < ⊤) :
    W10 m ρ c (Proc.devRef .tc main_v22) = outT (Y2 m ρ c) (A2 m ρ c) (S2 m ρ c) := by
  refine ((W10_arr m ρ c 3).trans (KR4.final (V9 m ρ) c)).trans ?_
  rw [V9_v16_0 m ρ c hf, V9_scale m ρ c hf, V9_shift m ρ c hf]

end Cert.KernelIdeal.KChain

end
-- ==== Proof.RefNear.lean ====
/-
  The reference's choice of nearest points, read entry by entry: its distances are `Spec.dist`, its stable sort puts the three
  nearest positions first, and its gathers read the operand at the position the index word holds.
-/
module

public import proofs.«01_k».proof.Proof.Spec
public import proofs.«01_k».proof.Proof.Gen.ReferenceIdeal.Read
public import Idealize.ShloMosaic.Lib.Pointwise
public import Idealize.ShloMosaic.Lib.ReduceAll
public import Idealize.ShloMosaic.Lib.WordArith

@[expose] public section

set_option maxRecDepth 16384

noncomputable section

namespace Cert.ReferenceIdeal.RNear

open Idealize.ShloMosaic Cert.ReferenceIdeal.Read Cert.Nearest

/-- The cloud's points, the other cloud's points, and the feature points of batch `b`. -/
abbrev pA (x0 : (⟨S16x3x4096, .f32⟩ : BufTy).Contents (Elt Ideal)) (b : Fin 16) (n : Fin 4096) : Spec.Pt := fun c => x0 (ix3 b c n)
abbrev qA (x1 : (⟨S16x3x1024, .f32⟩ : BufTy).Contents (Elt Ideal)) (b : Fin 16) (j : Fin 1024) : Spec.Pt := fun c => x1 (ix3 b c j)
abbrev fA (x4 : (⟨S16x1024x4, .f32⟩ : BufTy).Contents (Elt Ideal)) (b : Fin 16) (j : Fin 1024) : Spec.Pt :=
  fun c => x4 (ix3 b j ⟨1 + c.val, by omega⟩)

/-- The distances of point `n` to the other cloud's points, and to the feature points. -/
def dA (x0 : (⟨S16x3x4096, .f32⟩ : BufTy).Contents (Elt Ideal)) (x1 : (⟨S16x3x1024, .f32⟩ : BufTy).Contents (Elt Ideal))
    (b : Fin 16) (n : Fin 4096) : Row := fun j => Spec.dist (pA x0 b n) (qA x1 b j)
def gA (x0 : (⟨S16x3x4096, .f32⟩ : BufTy).Contents (Elt Ideal)) (x4 : (⟨S16x1024x4, .f32⟩ : BufTy).Contents (Elt Ideal))
    (b : Fin 16) (n : Fin 4096) : Row := fun j => Spec.dist (pA x0 b n) (fA x4 b j)

theorem v15_apply (x0 : (⟨S16x3x4096, .f32⟩ : BufTy).Contents (Elt Ideal)) (x1 : (⟨S16x3x1024, .f32⟩ : BufTy).Contents (Elt Ideal))
    (b : Fin 16) (n : Fin 4096) (j : Fin 1024) : val_main_v15 (F := Ideal) x0 x1 (ix3 b n j) = dA x0 x1 b n j := by
  unfold val_main_v15 val_main_v14 val_main_v13 val_main_v12 val_main_v11 val_main_v10 val_main_v9 val_main_v8 val_main_v7
    val_main_v6 val_main_v5 val_main_v4 val_main_v3 val_main_v1 val_main_v0 val_main_cst val_main_cst_0 val_main_cst_1 dA Spec.dist
  pointwise

theorem v51_apply (x0 : (⟨S16x3x4096, .f32⟩ : BufTy).Contents (Elt Ideal)) (x4 : (⟨S16x1024x4, .f32⟩ : BufTy).Contents (Elt Ideal))
    (b : Fin 16) (n : Fin 4096) (j : Fin 1024) : val_main_v51 (F := Ideal) x0 x4 (ix3 b n j) = gA x0 x4 b n j := by
  unfold val_main_v51 val_main_v50 val_main_v49 val_main_v48 val_main_v47 val_main_v46 val_main_v45 val_main_v44 val_main_v43
    val_main_v42 val_main_v41 val_main_v40 val_main_v39 val_main_v38 val_main_v0 val_main_cst_7 val_main_cst_8 val_main_cst_9 gA Spec.dist
  pointwise

/-- The comparator orders by the float value. -/
theorem comparator_eq (l r : EReal × BitVec 32) :
    comparator_f32_i32_d2 (F := Ideal) l r = BitVec.ofBool (decide (l.1 < r.1)) := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h0 : FloatOps.ofBits (F := Ideal) .f32 0x00000000#32 = (0 : EReal) := Ideal.ofBits_zero_f32
    rw [Ideal.cmpf_def, Ideal.cmpf_def, h0]
    by_cases e : x = 0
    · subst e; simp [Ideal.cmp, Scalar.select]
    · simp [Ideal.cmp, Scalar.select, e]
  have e : comparator_f32_i32_d2 (F := Ideal) l r
      = FloatOps.cmpfTotal (F := Ideal) (φ := .f32) .lt
        (Scalar.select (FloatOps.cmpf (F := Ideal) (φ := .f32) .une l.1 l.1) (FloatOps.ofBits (F := Ideal) .f32 0x7FC00000#32)
          (Scalar.select (FloatOps.cmpf (F := Ideal) (φ := .f32) .oeq l.1 (FloatOps.ofBits (F := Ideal) .f32 0x00000000#32))
            (FloatOps.ofBits (F := Ideal) .f32 0x00000000#32) l.1))
        (Scalar.select (FloatOps.cmpf (F := Ideal) (φ := .f32) .une r.1 r.1) (FloatOps.ofBits (F := Ideal) .f32 0x7FC00000#32)
          (Scalar.select (FloatOps.cmpf (F := Ideal) (φ := .f32) .oeq r.1 (FloatOps.ofBits (F := Ideal) .f32 0x00000000#32))
            (FloatOps.ofBits (F := Ideal) .f32 0x00000000#32) r.1)) := rfl
  rw [e, h, h]
  show Ideal.cmp .olt l.1 r.1 = _
  simp [Ideal.cmp]

/-- A stable sort of a row and its positions, along the last axis: the position it puts at place `j` is the one the row's order
    puts there. -/
theorem sort_apply (v : (⟨S16x4096x1024, .f32⟩ : BufTy).Contents (Elt Ideal)) (w : (⟨S16x4096x1024, .i32⟩ : BufTy).Contents (Elt Ideal))
    (hw : ∀ i, w i = BitVec.ofNat 32 (i 2).val) (f : Row) (b : Fin 16) (n : Fin 4096) (hv : ∀ k, v (ix3 b n k) = f k) (j : Fin 1024) :
    (Host.sort2 S16x4096x1024 2 (comparator_f32_i32_d2 (F := Ideal)) v w).2 (ix3 b n j)
      = BitVec.ofNat 32 (sortedFrom (fun k k' : Fin 1024 => decide (f k < f k')) j).val := by
  have e : (Host.sort2 S16x4096x1024 2 (comparator_f32_i32_d2 (F := Ideal)) v w).2 (ix3 b n j)
      = w (ix3 b n (sortedFrom (fun k k' : Fin 1024 => comparator_f32_i32_d2 (F := Ideal) (v (ix3 b n k), w (ix3 b n k))
          (v (ix3 b n k'), w (ix3 b n k')) == 1#1) j)) := by
    have ha : ∀ k : Fin 1024, Shape.Idx.along (s := S16x4096x1024) (ix3 b n j) 2 k = ix3 b n k := by
      intro k; funext a; match a with | ⟨0, _⟩ => rfl | ⟨1, _⟩ => rfl | ⟨2, _⟩ => rfl
    have hd : 2 < S16x4096x1024.rank := by decide
    unfold Host.sort2
    rw [dif_pos hd]
    show w (Shape.Idx.along (s := S16x4096x1024) (ix3 b n j) 2 (sortedFrom (n := 1024) (fun k k' : Fin 1024 =>
      comparator_f32_i32_d2 (F := Ideal)
          (v (Shape.Idx.along (s := S16x4096x1024) (ix3 b n j) 2 k), w (Shape.Idx.along (s := S16x4096x1024) (ix3 b n j) 2 k))
          (v (Shape.Idx.along (s := S16x4096x1024) (ix3 b n j) 2 k'), w (Shape.Idx.along (s := S16x4096x1024) (ix3 b n j) 2 k')) == 1#1) j)) = _
    simp only [ha]
  rw [e, hw]
  have hc : (fun k k' : Fin 1024 => comparator_f32_i32_d2 (F := Ideal) (v (ix3 b n k), w (ix3 b n k)) (v (ix3 b n k'), w (ix3 b n k')) == 1#1)
      = fun k k' => decide (f k < f k') := by
    funext k k'
    rw [comparator_eq]
    simp only [hv]
    by_cases h : f k < f k' <;> simp [h]
  rw [hc]
  rfl

/-- A small position read back from its index word. -/
theorem word_toNat (k : Fin 1024) : min (BitVec.ofNat 32 k.val).toInt.toNat (1024 - 1) = k.val := by
  have hn : (BitVec.ofNat 32 k.val).toNat = k.val := by rw [BitVec.toNat_ofNat]; omega
  rw [BitVec.toInt_eq_toNat_of_lt (by omega), hn, Int.toNat_natCast]
  omega

/-- The gather of one distance per (batch, point, place). -/
theorem gather1_apply (x : (⟨S16x4096x1024, .f32⟩ : BufTy).Contents (Elt Ideal)) (idx : (⟨S16x4096x3x1, .i32⟩ : BufTy).Contents (Elt Ideal))
    (b : Fin 16) (n : Fin 4096) (s : Fin 3) (k : Fin 1024) (hk : idx (ix4 b n s 0) = BitVec.ofNat 32 k.val) :
    Host.gather gather_S16x4096x1024_S16x4096x3x1_S16x4096x3_n_2_01_01_2_3_111 x idx (ix3 b n s) = x (ix3 b n k) := by
  let d := gather_S16x4096x1024_S16x4096x3x1_S16x4096x3_n_2_01_01_2_3_111
  unfold Host.gather
  congr 1
  funext a
  refine Fin.ext ?_
  show d.start (ix3 b n s) idx a + d.batchCoord (ix3 b n s) a + d.offCoord (ix3 b n s) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [d.start_batching _ _ _ (by decide), d.offCoord_eq_zero _ _ (by decide)]
    unfold GatherDims.batchCoord
    rw [dif_pos (by decide)]
    exact Nat.zero_add _
  · rw [d.start_batching _ _ _ (by decide), d.offCoord_eq_zero _ _ (by decide)]
    unfold GatherDims.batchCoord
    rw [dif_pos (by decide)]
    exact Nat.zero_add _
  · rw [d.batchCoord_eq_zero _ _ (by decide), d.offCoord_eq_zero _ _ (by decide)]
    unfold GatherDims.start
    rw [dif_pos (by decide)]
    have hsi : d.siIdx (ix3 b n s) ⟨List.idxOf (2 : Fin 3) d.startIndexMap, by decide⟩ = ix4 b n s 0 := by
      funext c; refine Fin.ext ?_
      match c with
      | ⟨0, _⟩ => rfl
      | ⟨1, _⟩ => rfl
      | ⟨2, _⟩ => rfl
      | ⟨3, _⟩ => rfl
    rw [hsi, hk]
    exact word_toNat k

/-- The gather of a whole feature row per (batch, point, place). -/
theorem gather2_apply (x : (⟨S16x1024x256, .f32⟩ : BufTy).Contents (Elt Ideal)) (idx : (⟨S16x4096x3x1, .i32⟩ : BufTy).Contents (Elt Ideal))
    (b : Fin 16) (n : Fin 4096) (s : Fin 3) (o : Fin 256) (k : Fin 1024) (hk : idx (ix4 b n s 0) = BitVec.ofNat 32 k.val) :
    Host.gather gather_S16x1024x256_S16x4096x3x1_S16x4096x3x256_3_1_0_0_1_3_11256 x idx (ix4 b n s o) = x (ix3 b k o) := by
  let d := gather_S16x1024x256_S16x4096x3x1_S16x4096x3x256_3_1_0_0_1_3_11256
  unfold Host.gather
  congr 1
  funext a
  refine Fin.ext ?_
  show d.start (ix4 b n s o) idx a + d.batchCoord (ix4 b n s o) a + d.offCoord (ix4 b n s o) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [d.start_batching _ _ _ (by decide), d.offCoord_eq_zero _ _ (by decide)]
    unfold GatherDims.batchCoord
    rw [dif_pos (by decide)]
    exact Nat.zero_add _
  · rw [d.batchCoord_eq_zero _ _ (by decide), d.offCoord_eq_zero _ _ (by decide)]
    unfold GatherDims.start
    rw [dif_pos (by decide)]
    have hsi : d.siIdx (ix4 b n s o) ⟨List.idxOf (1 : Fin 3) d.startIndexMap, by decide⟩ = ix4 b n s 0 := by
      funext c; refine Fin.ext ?_
      match c with
      | ⟨0, _⟩ => rfl
      | ⟨1, _⟩ => rfl
      | ⟨2, _⟩ => rfl
      | ⟨3, _⟩ => rfl
    rw [hsi, hk]
    exact word_toNat k
  · rw [d.batchCoord_eq_zero _ _ (by decide)]
    unfold GatherDims.start GatherDims.offCoord
    rw [dif_neg (by decide), dif_pos (by decide)]
    exact Nat.zero_add _

/-- The gather of a whole feature point per (batch, point). -/
theorem gather3_apply (x : (⟨S16x1024x4, .f32⟩ : BufTy).Contents (Elt Ideal)) (idx : (⟨S16x4096x1, .i32⟩ : BufTy).Contents (Elt Ideal))
    (b : Fin 16) (n : Fin 4096) (o : Fin 4) (k : Fin 1024) (hk : idx (ix3 b n 0) = BitVec.ofNat 32 k.val) :
    Host.gather gather_S16x1024x4_S16x4096x1_S16x4096x4_2_1_0_0_1_2_114 x idx (ix3 b n o) = x (ix3 b k o) := by
  let d := gather_S16x1024x4_S16x4096x1_S16x4096x4_2_1_0_0_1_2_114
  unfold Host.gather
  congr 1
  funext a
  refine Fin.ext ?_
  show d.start (ix3 b n o) idx a + d.batchCoord (ix3 b n o) a + d.offCoord (ix3 b n o) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [d.start_batching _ _ _ (by decide), d.offCoord_eq_zero _ _ (by decide)]
    unfold GatherDims.batchCoord
    rw [dif_pos (by decide)]
    exact Nat.zero_add _
  · rw [d.batchCoord_eq_zero _ _ (by decide), d.offCoord_eq_zero _ _ (by decide)]
    unfold GatherDims.start
    rw [dif_pos (by decide)]
    have hsi : d.siIdx (ix3 b n o) ⟨List.idxOf (1 : Fin 3) d.startIndexMap, by decide⟩ = ix3 b n 0 := by
      funext c; refine Fin.ext ?_
      match c with
      | ⟨0, _⟩ => rfl
      | ⟨1, _⟩ => rfl
      | ⟨2, _⟩ => rfl
    rw [hsi, hk]
    exact word_toNat k
  · rw [d.batchCoord_eq_zero _ _ (by decide)]
    unfold GatherDims.start GatherDims.offCoord
    rw [dif_neg (by decide), dif_pos (by decide)]
    exact Nat.zero_add _

end Cert.ReferenceIdeal.RNear
end
-- ==== Proof.RefFeat.lean ====
/-
  The reference's first layer, read entry by entry: three nearest points and their interpolated features, the features of the one
  nearest feature point, and the weighted sum of each point's feature row.
-/
module

public import proofs.«01_k».proof.Proof.RefNear

@[expose] public section

set_option maxRecDepth 16384

noncomputable section

namespace Cert.ReferenceIdeal.RFeat

open Idealize.ShloMosaic Cert.ReferenceIdeal.Read Cert.Nearest Cert.ReferenceIdeal.RNear

section Words

theorem toInt_word (k : Fin 1024) : (BitVec.ofNat 32 k.val).toInt = (k.val : Int) := by
  have hn : (BitVec.ofNat 32 k.val).toNat = k.val := by rw [BitVec.toNat_ofNat]; omega
  rw [BitVec.toInt_eq_toNat_of_lt (by omega), hn]

theorem slt_word (k : Fin 1024) : IntOp.cmpi .slt (BitVec.ofNat 32 k.val) 0#32 = 0#1 := by
  have h : (BitVec.ofNat 32 k.val).slt 0#32 = false := by
    rw [Bool.eq_false_iff, ne_eq, BitVec.slt_iff_toInt_lt, toInt_word]; simp
  unfold IntOp.cmpi
  show BitVec.ofBool ((BitVec.ofNat 32 k.val).slt 0#32) = _
  rw [h]; rfl

theorem sge_word (k : Fin 1024) : IntOp.cmpi .sge (BitVec.ofNat 32 k.val) 0#32 = 1#1 := by
  have h : (0#32).sle (BitVec.ofNat 32 k.val) = true := by
    rw [BitVec.sle_iff_toInt_le, toInt_word]; simp
  unfold IntOp.cmpi
  show BitVec.ofBool ((0#32).sle (BitVec.ofNat 32 k.val)) = _
  rw [h]; rfl

theorem sle_word (k : Fin 1024) : IntOp.cmpi .sle (BitVec.ofNat 32 k.val) 1023#32 = 1#1 := by
  have h : (BitVec.ofNat 32 k.val).sle 1023#32 = true := by
    rw [BitVec.sle_iff_toInt_le, toInt_word]
    have : (1023#32).toInt = 1023 := by decide
    rw [this]; omega
  unfold IntOp.cmpi
  show BitVec.ofBool ((BitVec.ofNat 32 k.val).sle 1023#32) = _
  rw [h]; rfl

/-- A position is never negative, so wrapping it around leaves it alone. -/
theorem wrap_word (k : Fin 1024) (y : BitVec 32) :
    Scalar.select (IntOp.cmpi .slt (BitVec.ofNat 32 k.val) 0#32) y (BitVec.ofNat 32 k.val) = BitVec.ofNat 32 k.val := by
  rw [slt_word]; rfl

end Words

variable (x0 : (⟨S16x3x4096, .f32⟩ : BufTy).Contents (Elt Ideal)) (x1 : (⟨S16x3x1024, .f32⟩ : BufTy).Contents (Elt Ideal))
  (x2 : (⟨S16x128x4096, .f32⟩ : BufTy).Contents (Elt Ideal)) (x3 : (⟨S16x256x1024, .f32⟩ : BufTy).Contents (Elt Ideal))
  (x4 : (⟨S16x1024x4, .f32⟩ : BufTy).Contents (Elt Ideal)) (x5 : (⟨S256x388, .f32⟩ : BufTy).Contents (Elt Ideal))
  (x6 : (⟨S256, .f32⟩ : BufTy).Contents (Elt Ideal))

/-- The position at place `s` of the sorted distances. -/
def pos3 (b : Fin 16) (n : Fin 4096) (s : Fin 3) : Fin 1024 :=
  sortedFrom (fun k k' : Fin 1024 => decide (dA x0 x1 b n k < dA x0 x1 b n k')) (s.castLE (by decide))

theorem v17_apply (b : Fin 16) (n : Fin 4096) (s : Fin 3) :
    val_main_v17 (F := Ideal) x0 x1 (ix3 b n s) = BitVec.ofNat 32 (pos3 x0 x1 b n s).val := by
  have e : idx_main_v17 (ix3 b n s) = ix3 b n (s.castLE (by decide)) := by
    funext a; match a with | ⟨0, _⟩ => rfl | ⟨1, _⟩ => rfl | ⟨2, _⟩ => rfl
  rw [val_main_v17_apply, e]
  unfold pos3 val_main_v16
  exact sort_apply _ _ (fun _ => rfl) (dA x0 x1 b n) b n (fun k => v15_apply x0 x1 b n k) (s.castLE (by decide))

theorem call1_v4_apply (b : Fin 16) (n : Fin 4096) (s : Fin 3) :
    val_main_call1_v4 (F := Ideal) x0 x1 (ix3 b n s) = BitVec.ofNat 32 (pos3 x0 x1 b n s).val := by
  rw [val_main_call1_v4_apply, val_main_call1_v1_apply, v17_apply]
  exact wrap_word _ _

theorem v31_apply (b : Fin 16) (n : Fin 4096) (s : Fin 3) :
    val_main_v31 (F := Ideal) x0 x1 (ix3 b n s) = BitVec.ofNat 32 (pos3 x0 x1 b n s).val := by
  rw [val_main_v31_apply, val_main_v28_apply, v17_apply]
  exact wrap_word _ _

theorem call1_v5_apply (b : Fin 16) (n : Fin 4096) (s : Fin 3) (z : Fin 1) :
    val_main_call1_v5 (F := Ideal) x0 x1 (ix4 b n s z) = BitVec.ofNat 32 (pos3 x0 x1 b n s).val := by
  rw [val_main_call1_v5_apply, ← call1_v4_apply]
  congr 1
  funext a
  refine Fin.ext ?_
  match a with
  | ⟨0, _⟩ => show (((b.val * 4096 + n.val) * 3 + s.val) * 1 + z.val) / 12288 = b.val; omega
  | ⟨1, _⟩ => show (((b.val * 4096 + n.val) * 3 + s.val) * 1 + z.val) / 3 % 4096 = n.val; omega
  | ⟨2, _⟩ => show (((b.val * 4096 + n.val) * 3 + s.val) * 1 + z.val) % 3 = s.val; omega

theorem call1_v12_apply (i) : val_main_call1_v12 (F := Ideal) x0 x1 i = 1#1 := by
  unfold val_main_call1_v12
  refine Host.reduce_andi_one _ _ _ _ _ rfl fun j => ?_
  suffices h : ∀ b n s z, val_main_call1_v11 (F := Ideal) x0 x1 (ix4 b n s z) = 1#1 from (eq_ix4 j) ▸ h _ _ _ _
  intro b n s z
  rw [val_main_call1_v11_apply, val_main_call1_v7_apply, val_main_call1_v10_apply, call1_v5_apply]
  have h1 : val_main_call1_v6 (F := Ideal) (ix4 b n s z) = 0#32 := by rw [val_main_call1_v6_apply]; rfl
  have h2 : val_main_call1_v9 (F := Ideal) (ix4 b n s z) = 1023#32 := by
    rw [val_main_call1_v9_apply, val_main_call1_v8_apply]; rfl
  rw [h1, h2, sge_word, sle_word]
  rfl

theorem v18_apply (b : Fin 16) (n : Fin 4096) (s : Fin 3) :
    val_main_v18 (F := Ideal) x0 x1 (ix3 b n s) = dA x0 x1 b n (pos3 x0 x1 b n s) := by
  rw [val_main_v18_apply, call1_v12_apply]
  show val_main_call1_v13 (F := Ideal) x0 x1 (ix3 b n s) = _
  unfold val_main_call1_v13
  rw [gather1_apply _ _ b n s _ (call1_v5_apply x0 x1 b n s 0), v15_apply]

theorem v22_apply (b : Fin 16) (n : Fin 4096) (s : Fin 3) :
    val_main_v22 (F := Ideal) x0 x1 (ix3 b n s) = Spec.inv (dA x0 x1 b n (pos3 x0 x1 b n s)) := by
  unfold val_main_v22 val_main_v21 val_main_v20 val_main_v19 val_main_cst_2 val_main_cst_3 Spec.inv
  pointwise [v18_apply]

theorem v23_apply (b : Fin 16) (n : Fin 4096) :
    val_main_v23 (F := Ideal) x0 x1 (ix2 b n) = ∑ s : Fin 3, Spec.inv (dA x0 x1 b n (pos3 x0 x1 b n s)) := by
  unfold val_main_v23 val_main_cst_4
  pointwise [v22_apply]

theorem v26_apply (b : Fin 16) (n : Fin 4096) (s : Fin 3) :
    val_main_v26 (F := Ideal) x0 x1 (ix3 b n s) = Ideal.div (Spec.inv (dA x0 x1 b n (pos3 x0 x1 b n s)))
      (∑ s : Fin 3, Spec.inv (dA x0 x1 b n (pos3 x0 x1 b n s))) := by
  unfold val_main_v26 val_main_v25 val_main_v24
  pointwise [v22_apply, v23_apply]

theorem v33_apply (b : Fin 16) (n : Fin 4096) (s : Fin 3) (o : Fin 256) :
    val_main_v33 (F := Ideal) x0 x1 x3 (ix4 b n s o) = x3 (ix3 b o (pos3 x0 x1 b n s)) := by
  have h : val_main_v32 (F := Ideal) x0 x1 (ix4 b n s 0) = BitVec.ofNat 32 (pos3 x0 x1 b n s).val := by
    have e : idx_main_v32 (ix4 b n s 0) = ix3 b n s := by
      funext a; match a with | ⟨0, _⟩ => rfl | ⟨1, _⟩ => rfl | ⟨2, _⟩ => rfl
    rw [val_main_v32_apply, e]
    exact v31_apply x0 x1 b n s
  unfold val_main_v33
  rw [gather2_apply _ _ b n s o _ h]
  unfold val_main_v2
  pointwise

theorem v37_apply (b : Fin 16) (n : Fin 4096) (o : Fin 256) (hf : ∀ j, dA x0 x1 b n j < ⊤) :
    val_main_v37 (F := Ideal) x0 x1 x3 (ix3 b n o) = Spec.interp (dA x0 x1 b n) fun j => x3 (ix3 b o j) := by
  have hp : ∀ s, pos3 x0 x1 b n s = near (dA x0 x1 b n) s := fun s => sortedFrom_near _ hf s
  have h : val_main_v37 (F := Ideal) x0 x1 x3 (ix3 b n o)
      = ∑ s : Fin 3, x3 (ix3 b o (pos3 x0 x1 b n s)) * Ideal.div (Spec.inv (dA x0 x1 b n (pos3 x0 x1 b n s)))
          (∑ s : Fin 3, Spec.inv (dA x0 x1 b n (pos3 x0 x1 b n s))) := by
    unfold val_main_v37 val_main_v36 val_main_v35 val_main_v34 val_main_cst_6
    pointwise [v33_apply, v26_apply]
  rw [h]
  unfold Spec.interp Spec.norm
  simp only [hp, Fin.sum_univ_three (fun s => Spec.inv (dA x0 x1 b n (near (dA x0 x1 b n) s)))]
  exact Finset.sum_congr rfl fun s _ => mul_comm _ _

/-- The feature point nearest to point `n`. -/
theorem v52_apply (b : Fin 16) (n : Fin 4096) :
    val_main_v52 (F := Ideal) x0 x4 (ix3 b n 0) = BitVec.ofNat 32 (firstMin (gA x0 x4 b n)).val := by
  rw [← sortedFrom_zero]
  unfold val_main_v52
  exact sort_apply _ _ (fun _ => rfl) (gA x0 x4 b n) b n (fun k => v51_apply x0 x4 b n k) ((0 : Fin 1).castLE (by omega))

theorem v54_apply (b : Fin 16) (n : Fin 4096) :
    val_main_v54 (F := Ideal) x0 x4 (ix2 b n) = BitVec.ofNat 32 (firstMin (gA x0 x4 b n)).val := by
  rw [val_main_v54_apply, val_main_v53_apply, ← v52_apply]
  congr 1
  funext a
  refine Fin.ext ?_
  match a with
  | ⟨0, _⟩ => show (b.val * 4096 + n.val) / 4096 = b.val; omega
  | ⟨1, _⟩ => show (b.val * 4096 + n.val) / 1 % 4096 = n.val; omega
  | ⟨2, _⟩ => rfl

theorem v61_apply (b : Fin 16) (n : Fin 4096) (c : Fin 4) :
    val_main_v61 (F := Ideal) x0 x4 (ix3 b n c) = x4 (ix3 b (firstMin (gA x0 x4 b n)) c) := by
  have h : val_main_v60 (F := Ideal) x0 x4 (ix3 b n 0) = BitVec.ofNat 32 (firstMin (gA x0 x4 b n)).val := by
    have e : idx_main_v60 (ix3 b n 0) = ix2 b n := by
      funext a; match a with | ⟨0, _⟩ => rfl | ⟨1, _⟩ => rfl
    rw [val_main_v60_apply, e, val_main_v59_apply, val_main_v56_apply, v54_apply]
    exact wrap_word _ _
  unfold val_main_v61
  exact gather3_apply _ _ b n c _ h

/-- A point's feature row. -/
def featA (b : Fin 16) (n : Fin 4096) : Fin 388 → EReal :=
  Spec.feature (fun k => x2 (ix3 b k n)) (dA x0 x1 b n) (fun j c => x3 (ix3 b c j)) (gA x0 x4 b n) (fun j c => x4 (ix3 b j c))

theorem v63_apply (b : Fin 16) (n : Fin 4096) (k : Fin 388) (hf : ∀ j, dA x0 x1 b n j < ⊤) :
    val_main_v63 (F := Ideal) x0 x1 x2 x3 x4 (ix3 b n k) = featA x0 x1 x2 x3 x4 b n k := by
  unfold val_main_v63 val_main_v62 featA Spec.feature
  refine (?_ : ∀ R : EReal, R = _ → _ = R) _ rfl
  intro R hR
  pointwise [v61_apply]
  rw [hR]
  simp only [v37_apply x0 x1 x3 b n _ hf]
  by_cases h1 : k.val < 128
  · simp only [h1, dif_pos]
  · by_cases h2 : k.val < 384
    · have h3 : k.val - 128 < 256 := by omega
      simp only [h1, h2, h3, dif_pos, dif_neg, not_false_eq_true]
    · have h3 : ¬ k.val - 128 < 256 := by omega
      simp only [h1, h2, h3, dif_neg, not_false_eq_true, Nat.sub_sub]

theorem v69_apply (b : Fin 16) (n : Fin 4096) (o : Fin 256) (hf : ∀ j, dA x0 x1 b n j < ⊤) :
    val_main_v69 (F := Ideal) x0 x1 x2 x3 x4 x5 x6 (ix3 b o n)
      = (∑ k : Fin 388, featA x0 x1 x2 x3 x4 b n k * x5 (ix2 o k)) + x6 (ix1 o) := by
  unfold val_main_v69 val_main_v68 val_main_v67 val_main_v66 val_main_v65 val_main_v64
  pointwise [v63_apply _ _ _ _ _ _ _ _ hf]

end Cert.ReferenceIdeal.RFeat
end
-- ==== Proof.RefNorm.lean ====
/-
  The reference's batch normalization with its rectifier, as one function of the array it normalizes, and what that function holds
  at an entry: `BN.normed` over all batches and points of the entry's channel, cut off at zero.
-/
module

public import proofs.«01_k».proof.Proof.BN
public import proofs.«01_k».proof.Proof.Gen.ReferenceIdeal.Read
public import Idealize.ShloMosaic.Lib.Pointwise

@[expose] public section

set_option maxRecDepth 16384

noncomputable section

namespace Cert.ReferenceIdeal.RNorm

open Idealize.ShloMosaic Cert.ReferenceIdeal Cert.ReferenceIdeal.Gen Cert.ReferenceIdeal.Read

abbrev Arr : Type := (⟨S16x256x4096, .f32⟩ : BufTy).Contents (Elt Ideal)
abbrev Chan : Type := (⟨S256, .f32⟩ : BufTy).Contents (Elt Ideal)

/-- The sum over batches and points of each channel. -/
def sumC (Y : Arr) : Chan :=
  Host.reduceAdd (F := Ideal) (φ := .f32) Y (constant S_ .f32 0x00000000#32) reducesTo_S16x256x4096_S256_d0_2 h_S_

/-- The mean of each channel. -/
def meanC (Y : Arr) : (⟨S1x256x1, .f32⟩ : BufTy).Contents (Elt Ideal) :=
  Host.divf (F := Ideal) (φ := .f32) (broadcastInDim S1x256x1 ![1] bcast_S256_S1x256x1_1 (sumC Y))
    (broadcastInDim S1x256x1 ![] bcast_S_S1x256x1 (constant S_ .f32 0x47800000#32))

/-- The array minus its channels' means. -/
def devC (Y : Arr) : Arr :=
  subf (F := Ideal) (φ := .f32) Y (broadcastInDim S16x256x4096 ![0, 1, 2] bcast_S1x256x1_S16x256x4096_0_1_2 (meanC Y))

/-- The number of entries of a channel, less the zero degrees of freedom. -/
def cntC : (⟨S_, .f32⟩ : BufTy).Contents (Elt Ideal) :=
  subf (F := Ideal) (φ := .f32) (constant S_ .f32 0x47800000#32) (sitofp .f32 (constantI S_ 32 0#32))

/-- The variance of each channel. -/
def varC (Y : Arr) : (⟨S1x256x1, .f32⟩ : BufTy).Contents (Elt Ideal) :=
  select (broadcastInDim S1x256x1 ![] bcast_S_S1x256x1 (cmpf (F := Ideal) (φ := .f32) .ogt cntC (constant S_ .f32 0x00000000#32)))
    (Host.divf (F := Ideal) (φ := .f32) (broadcastInDim S1x256x1 ![1] bcast_S256_S1x256x1_1 (sumC (mulf (F := Ideal) (φ := .f32) (devC Y) (devC Y))))
      (broadcastInDim S1x256x1 ![] bcast_S_S1x256x1 cntC))
    (broadcastInDim S1x256x1 ![] bcast_S_S1x256x1 (constant (F := Ideal) S_ .f32 0x7FC00000#32))

/-- The normalized array with gain `g` and offset `be`, cut off at zero. -/
def bnC (Y : Arr) (g be : Chan) : Arr :=
  maximumf (F := Ideal) (φ := .f32)
    (addf (F := Ideal) (φ := .f32)
      (mulf (F := Ideal) (φ := .f32)
        (Host.divf (F := Ideal) (φ := .f32) (devC Y)
          (broadcastInDim S16x256x4096 ![0, 1, 2] bcast_S1x256x1_S16x256x4096_0_1_2
            (Host.sqrt (F := Ideal) (φ := .f32) (addf (F := Ideal) (φ := .f32) (varC Y)
              (broadcastInDim S1x256x1 ![] bcast_S_S1x256x1 (constant S_ .f32 0x3727C5AC#32))))))
        (broadcastInDim S16x256x4096 ![0, 1, 2] bcast_S1x256x1_S16x256x4096_0_1_2 (broadcastInDim S1x256x1 ![1] bcast_S256_S1x256x1_1 g)))
      (broadcastInDim S16x256x4096 ![0, 1, 2] bcast_S1x256x1_S16x256x4096_0_1_2 (broadcastInDim S1x256x1 ![1] bcast_S256_S1x256x1_1 be)))
    (broadcastInDim S16x256x4096 ![] bcast_S_S16x256x4096 (constant S_ .f32 0x00000000#32))

theorem fiber_iff (o : Fin 256) (i : S16x256x4096.Idx) :
    reducesTo_S16x256x4096_S256_d0_2.drop i = ix1 o ↔ ∃ p : Fin 16 × Fin 4096, ix3 p.1 o p.2 = i := by
  constructor
  · intro e
    refine ⟨(i 0, i 2), ?_⟩
    funext a; apply Fin.ext
    match a with
    | ⟨0, _⟩ => rfl
    | ⟨1, _⟩ => exact (congrArg Fin.val (congrFun e 0)).symm
    | ⟨2, _⟩ => rfl
  · rintro ⟨p, rfl⟩
    funext b; apply Fin.ext
    match b with
    | ⟨0, _⟩ => rfl

theorem sumC_apply (Y : Arr) (o : Fin 256) : sumC Y (ix1 o) = ∑ p : Fin 16 × Fin 4096, Y (ix3 p.1 o p.2) := by
  have h : sumC Y (ix1 o) = Ideal.hostReduceAdd reducesTo_S16x256x4096_S256_d0_2 Y (Ideal.ofBits .f32 0x00000000#32) (ix1 o) := rfl
  rw [h]
  unfold Ideal.hostReduceAdd
  rw [Ideal.ofBits_zero_f32, zero_add]
  refine Finset.sum_filter_eq_sum_of_fiber _ (fun p : Fin 16 × Fin 4096 => (ix3 p.1 o p.2 : S16x256x4096.Idx)) ?_ (fiber_iff o) Y
  intro p q e
  exact Prod.ext (congrFun e 0) (congrFun e 2)

theorem meanC_apply (Y : Arr) (z z' : Fin 1) (o : Fin 256) :
    meanC Y (ix3 z o z') = BN.mean (∑ p : Fin 16 × Fin 4096, Y (ix3 p.1 o p.2)) := by
  unfold meanC BN.mean BN.cN
  rw [← sumC_apply]
  pointwise

theorem devC_apply (Y : Arr) (b : Fin 16) (o : Fin 256) (n : Fin 4096) :
    devC Y (ix3 b o n) = Y (ix3 b o n) - BN.mean (∑ p : Fin 16 × Fin 4096, Y (ix3 p.1 o p.2)) := by
  unfold devC
  pointwise [meanC_apply]

theorem cntC_apply : cntC (Shape.Idx.first h_S_) = BN.cN := by
  have h : cntC (Shape.Idx.first h_S_) = Ideal.ofBits .f32 0x47800000#32 - (((0#32 : BitVec 32).toInt : ℝ) : EReal) := rfl
  rw [h]
  simp [BN.cN]

theorem varC_apply (Y : Arr) (z z' : Fin 1) (o : Fin 256) :
    varC Y (ix3 z o z') = Ideal.div (∑ p : Fin 16 × Fin 4096, devC Y (ix3 p.1 o p.2) * devC Y (ix3 p.1 o p.2)) BN.cN := by
  have hc : ∀ j : S_.Idx, cntC j = BN.cN := fun j => by
    rw [← cntC_apply]; congr 1; funext a; exact a.elim0
  have hs := sumC_apply (mulf (F := Ideal) (φ := .f32) (devC Y) (devC Y)) o
  have e : varC Y (ix3 z o z') = Scalar.select (Ideal.cmp .ogt BN.cN (Ideal.ofBits .f32 0x00000000#32))
      (Ideal.div (sumC (mulf (F := Ideal) (φ := .f32) (devC Y) (devC Y)) (ix1 o)) BN.cN) (Ideal.ofBits .f32 0x7FC00000#32) := by
    unfold varC
    pointwise [hc]
  rw [e, hs, Ideal.ofBits_zero_f32]
  have hp : (0 : EReal) < BN.cN := by rw [BN.cN_eq]; exact_mod_cast (by norm_num : (0 : ℝ) < 65536)
  simp only [Ideal.cmp, hp]
  rfl

theorem bnC_apply (Y : Arr) (g be : Chan) (b : Fin 16) (o : Fin 256) (n : Fin 4096) :
    bnC Y g be (ix3 b o n) = max (BN.normed (fun p : Fin 16 × Fin 4096 => Y (ix3 p.1 o p.2)) (g (ix1 o)) (be (ix1 o)) (b, n)) 0 := by
  have h : ∀ (D V G B R : EReal), (∀ z z' : Fin 1, varC Y (ix3 z o z') = V) → devC Y (ix3 b o n) = D → g (ix1 o) = G → be (ix1 o) = B →
      max (Ideal.div D (Ideal.sqrt (V + BN.cE)) * G + B) 0 = R → bnC Y g be (ix3 b o n) = R := by
    intro D V G B R hV hD hG hB hR
    unfold bnC
    pointwise [hV, hD, hG, hB]
    exact hR
  refine h _ _ _ _ _ (fun z z' => varC_apply Y z z' o) (devC_apply Y b o n) rfl rfl ?_
  simp only [devC_apply]
  rfl

end Cert.ReferenceIdeal.RNorm
end
-- ==== Proof.RefRead.lean ====
/-
  What the reference returns, entry by entry: two layers of weighted sums, each normalized over its channel and cut off at zero.
-/
module

public import proofs.«01_k».proof.Proof.RefFeat
public import proofs.«01_k».proof.Proof.RefNorm

@[expose] public section

set_option maxRecDepth 16384

noncomputable section

namespace Cert.ReferenceIdeal.RRead

open Idealize.ShloMosaic Cert.ReferenceIdeal Cert.ReferenceIdeal.Read Cert.Nearest Cert.ReferenceIdeal.RNear Cert.ReferenceIdeal.RFeat
  Cert.ReferenceIdeal.RNorm

variable (x0 : (⟨S16x3x4096, .f32⟩ : BufTy).Contents (Elt Ideal)) (x1 : (⟨S16x3x1024, .f32⟩ : BufTy).Contents (Elt Ideal))
  (x2 : (⟨S16x128x4096, .f32⟩ : BufTy).Contents (Elt Ideal)) (x3 : (⟨S16x256x1024, .f32⟩ : BufTy).Contents (Elt Ideal))
  (x4 : (⟨S16x1024x4, .f32⟩ : BufTy).Contents (Elt Ideal)) (x5 : (⟨S256x388, .f32⟩ : BufTy).Contents (Elt Ideal))
  (x6 x7 x8 : (⟨S256, .f32⟩ : BufTy).Contents (Elt Ideal)) (x9 : (⟨S256x256, .f32⟩ : BufTy).Contents (Elt Ideal))
  (x10 x11 x12 : (⟨S256, .f32⟩ : BufTy).Contents (Elt Ideal))

/-- The first layer's weighted sums at a (batch, point) and output channel. -/
def y1 (o : Fin 256) (p : Fin 16 × Fin 4096) : EReal :=
  (∑ k : Fin 388, featA x0 x1 x2 x3 x4 p.1 p.2 k * x5 (ix2 o k)) + x6 (ix1 o)

/-- The first layer's results. -/
def z1 (o : Fin 256) (p : Fin 16 × Fin 4096) : EReal :=
  max (BN.normed (y1 x0 x1 x2 x3 x4 x5 x6 o) (x7 (ix1 o)) (x8 (ix1 o)) p) 0

/-- The second layer's weighted sums. -/
def y2 (o : Fin 256) (p : Fin 16 × Fin 4096) : EReal :=
  (∑ k : Fin 256, z1 x0 x1 x2 x3 x4 x5 x6 x7 x8 k p * x9 (ix2 o k)) + x10 (ix1 o)

/-- The second layer's results. -/
def z2 (o : Fin 256) (p : Fin 16 × Fin 4096) : EReal :=
  max (BN.normed (y2 x0 x1 x2 x3 x4 x5 x6 x7 x8 x9 x10 o) (x11 (ix1 o)) (x12 (ix1 o)) p) 0

theorem v88_apply (hf : ∀ b n j, dA x0 x1 b n j < ⊤) (b : Fin 16) (o : Fin 256) (n : Fin 4096) :
    val_main_v88 (F := Ideal) x0 x1 x2 x3 x4 x5 x6 x7 x8 (ix3 b o n) = z1 x0 x1 x2 x3 x4 x5 x6 x7 x8 o (b, n) := by
  have e : val_main_v88 (F := Ideal) x0 x1 x2 x3 x4 x5 x6 x7 x8 = bnC (val_main_v69 (F := Ideal) x0 x1 x2 x3 x4 x5 x6) x7 x8 := rfl
  have hy : (fun p : Fin 16 × Fin 4096 => val_main_v69 (F := Ideal) x0 x1 x2 x3 x4 x5 x6 (ix3 p.1 o p.2)) = y1 x0 x1 x2 x3 x4 x5 x6 o :=
    funext fun p => v69_apply x0 x1 x2 x3 x4 x5 x6 p.1 p.2 o (hf p.1 p.2)
  rw [e, bnC_apply, hy]
  rfl

theorem v93_apply (hf : ∀ b n j, dA x0 x1 b n j < ⊤) (b : Fin 16) (o : Fin 256) (n : Fin 4096) :
    val_main_v93 (F := Ideal) x0 x1 x2 x3 x4 x5 x6 x7 x8 x9 x10 (ix3 b o n) = y2 x0 x1 x2 x3 x4 x5 x6 x7 x8 x9 x10 o (b, n) := by
  unfold val_main_v93 val_main_v92 val_main_v91 val_main_v90 val_main_v89 y2
  pointwise [v88_apply _ _ _ _ _ _ _ _ _ hf]

/-- What the reference returns. -/
theorem v112_apply (hf : ∀ b n j, dA x0 x1 b n j < ⊤) (b : Fin 16) (o : Fin 256) (n : Fin 4096) :
    val_main_v112 (F := Ideal) x0 x1 x2 x3 x4 x5 x6 x7 x8 x9 x10 x11 x12 (ix3 b o n)
      = z2 x0 x1 x2 x3 x4 x5 x6 x7 x8 x9 x10 x11 x12 o (b, n) := by
  have e : val_main_v112 (F := Ideal) x0 x1 x2 x3 x4 x5 x6 x7 x8 x9 x10 x11 x12
      = bnC (val_main_v93 (F := Ideal) x0 x1 x2 x3 x4 x5 x6 x7 x8 x9 x10) x11 x12 := rfl
  have hy : (fun p : Fin 16 × Fin 4096 => val_main_v93 (F := Ideal) x0 x1 x2 x3 x4 x5 x6 x7 x8 x9 x10 (ix3 p.1 o p.2))
      = y2 x0 x1 x2 x3 x4 x5 x6 x7 x8 x9 x10 o := funext fun p => v93_apply x0 x1 x2 x3 x4 x5 x6 x7 x8 x9 x10 hf p.1 o p.2
  rw [e, bnC_apply, hy]
  rfl

end Cert.ReferenceIdeal.RRead
end
-- ==== Proof.KerVal.lean ====
/-
  The kernel's result is the reference's: the gathered partial statistics are the sums over every point of every batch, so that
  a layer's products scaled and shifted by them are the products normalized; the transposed operands are read at the arguments.
-/
module

public import proofs.«01_k».proof.Proof.KerChain
public import proofs.«01_k».proof.Proof.RefRead

@[expose] public section

set_option maxRecDepth 16384

noncomputable section

namespace Cert.KernelIdeal.KVal

open Idealize.ShloMosaic Idealize.ShloMosaic.TcCoe Cert.KernelIdeal Cert.KernelIdeal.Gen
open Cert.KernelIdeal.KPay Cert.KernelIdeal.KArr Cert.KernelIdeal.KChain
open Cert.ReferenceIdeal.RNear Cert.ReferenceIdeal.RFeat Cert.ReferenceIdeal.RRead

/-! ### The sums by blocks -/

/-- A row of the gathered statistics, by batch, block and place in the block's eight rows. -/
def rowEquiv : (Fin 16 × Fin 8) × Fin 8 ≃ Fin 1024 where
  toFun p := ⟨(p.1.1.val * 8 + p.1.2.val) * 8 + p.2.val, by omega⟩
  invFun r := ((⟨r.val / 64, by omega⟩, ⟨r.val / 8 % 8, by omega⟩), ⟨r.val % 8, by omega⟩)
  left_inv p := by
    obtain ⟨⟨b, t⟩, e⟩ := p
    refine Prod.ext (Prod.ext (Fin.ext ?_) (Fin.ext ?_)) (Fin.ext ?_) <;> dsimp only <;> omega
  right_inv r := Fin.ext (by dsimp only; omega)

/-- A point of a batch, by block and place in the block. -/
def pointEquiv : Fin 8 × Fin 512 ≃ Fin 4096 where
  toFun p := at512 p.1 p.2
  invFun n := (⟨n.val / 512, by omega⟩, ⟨n.val % 512, by omega⟩)
  left_inv p := by
    obtain ⟨t, r⟩ := p
    unfold at512
    refine Prod.ext (Fin.ext ?_) (Fin.ext ?_) <;> dsimp only <;> omega
  right_inv n := Fin.ext (by unfold at512; dsimp only; omega)

/-- A sum over the points of a batch, block by block. -/
theorem sum_blocks (f : Fin 4096 → EReal) : ∑ t : Fin 8, ∑ r : Fin 512, f (at512 t r) = ∑ n, f n := by
  rw [← Equiv.sum_comp pointEquiv f, Fintype.sum_prod_type]
  rfl

/-- A sum over every eighth gathered row is the sum over batches and blocks of the row at one place. -/
theorem sum_rows (v : Fin 1024 → EReal) (k : Fin 8) :
    (∑ r : Fin 1024, if r.val % 8 = k.val then v r else 0) = ∑ b : Fin 16, ∑ t : Fin 8, v (rowEquiv ((b, t), k)) := by
  rw [← Equiv.sum_comp rowEquiv, Fintype.sum_prod_type, Fintype.sum_prod_type]
  refine Finset.sum_congr rfl fun b _ => Finset.sum_congr rfl fun t _ => ?_
  rw [Finset.sum_eq_single k]
  · rw [if_pos]
    show ((b.val * 8 + t.val) * 8 + k.val) % 8 = k.val
    omega
  · intro e _ he
    rw [if_neg]
    intro h
    apply he
    have h' : ((b.val * 8 + t.val) * 8 + e.val) % 8 = k.val := h
    exact Fin.ext (by omega)
  · intro h
    exact absurd (Finset.mem_univ k) h

/-- The gathered statistics' rows. -/
theorem stack_apply (p : Vec Ideal S16x8x8x256 .f32) (b : Fin 16) (t e : Fin 8) (o : Fin 256) :
    stack p (ix2 (rowEquiv ((b, t), e)) o) = p (ix4 b t e o) := by
  refine shapeCast_apply (s := S16x8x8x256) (t := S1024x256) p _ _ (ix4 b t e o) ?_
  rw [Shape.rowMajor_val_four, Shape.rowMajor_val_two]
  show ((b.val * 8 + t.val) * 8 + e.val) * 256 + o.val = ((b.val * 8 + t.val) * 8 + e.val) * 256 + o.val
  rfl

/-- A channel of a layer's products, over every point of every batch. -/
def col (y : Layer) (o : Fin 256) : Fin 16 × Fin 4096 → EReal := fun p => y (ix3 p.1 p.2 o)

theorem sum_stack0 (y : Layer) (o : Fin 256) : (sum0 fun r => stack (parts y) (ix2 r o)) = ∑ p, col y o p := by
  refine (sum_rows (fun r => stack (parts y) (ix2 r o)) 0).trans ?_
  rw [Fintype.sum_prod_type]
  refine Finset.sum_congr rfl fun b _ => ?_
  rw [← sum_blocks]
  refine Finset.sum_congr rfl fun t _ => ?_
  exact stack_apply (parts y) b t _ o

theorem sum_stack1 (y : Layer) (o : Fin 256) : (sum1 fun r => stack (parts y) (ix2 r o)) = ∑ p, col y o p * col y o p := by
  refine (sum_rows (fun r => stack (parts y) (ix2 r o)) 1).trans ?_
  rw [Fintype.sum_prod_type]
  refine Finset.sum_congr rfl fun b _ => ?_
  rw [← sum_blocks]
  refine Finset.sum_congr rfl fun t _ => ?_
  exact stack_apply (parts y) b t _ o

theorem chan_apply (p : Vec Ideal S256 .f32) (z : Fin 1) (o : Fin 256) : chan p (ix2 z o) = p (ix1 o) := by
  pointwise

/-- A layer's products scaled and shifted by its own statistics are the products normalized. -/
theorem scaled (y : Layer) (g be : Vec Ideal S256 .f32) (o : Fin 256) (hg : g (ix1 o) ≠ (⊤ : EReal)) (hg' : g (ix1 o) ≠ (⊥ : EReal))
    (b : Fin 16) (n : Fin 4096) :
    y (ix3 b n o) * scales (stack (parts y)) (chan g) (ix2 0 o) + shifts (stack (parts y)) (chan g) (chan be) (ix2 0 o)
      = BN.normed (col y o) (g (ix1 o)) (be (ix1 o)) (b, n) := by
  have e1 : scales (stack (parts y)) (chan g) (ix2 0 o) = BN.scale (∑ p, col y o p) (∑ p, col y o p * col y o p) (g (ix1 o)) := by
    rw [← sum_stack0, ← sum_stack1, ← chan_apply g 0 o]
    rfl
  have e2 : shifts (stack (parts y)) (chan g) (chan be) (ix2 0 o)
      = BN.shift (∑ p, col y o p) (∑ p, col y o p * col y o p) (g (ix1 o)) (be (ix1 o)) := by
    rw [← sum_stack0, ← sum_stack1, ← chan_apply g 0 o, ← chan_apply be 0 o]
    rfl
  rw [e1, e2]
  exact BN.scale_shift_eq (col y o) (by simp) (g (ix1 o)) (be (ix1 o)) hg hg' (b, n)

/-! ### The layers at the arguments -/

variable (m : (ℓ : Loc nD τ sig) → Buf (Elt Ideal) ℓ) (ρ : Dev nD → PrngReg) (c : Dev nD)

theorem tr0 (x : Vec Ideal S16x3x4096 .f32) (b : Fin 16) (n : Fin 4096) (k : Fin 3) :
    transpose S16x4096x3 [0, 2, 1] x transposes_S16x3x4096_S16x4096x3_0_2_1 (ix3 b n k) = x (ix3 b k n) := by pointwise
theorem tr1 (x : Vec Ideal S16x128x4096 .f32) (b : Fin 16) (n : Fin 4096) (k : Fin 128) :
    transpose S16x4096x128 [0, 2, 1] x transposes_S16x128x4096_S16x4096x128_0_2_1 (ix3 b n k) = x (ix3 b k n) := by pointwise
theorem tr2 (x : Vec Ideal S16x256x1024 .f32) (b : Fin 16) (n : Fin 1024) (k : Fin 256) :
    transpose S16x1024x256 [0, 2, 1] x transposes_S16x256x1024_S16x1024x256_0_2_1 (ix3 b n k) = x (ix3 b k n) := by pointwise
theorem tr3 (x : Vec Ideal S16x1024x4 .f32) (b : Fin 16) (n : Fin 4) (k : Fin 1024) :
    transpose S16x4x1024 [0, 2, 1] x transposes_S16x1024x4_S16x4x1024_0_2_1 (ix3 b n k) = x (ix3 b k n) := by pointwise
theorem tr4 (x : Vec Ideal S256x388 .f32) (k : Fin 388) (o : Fin 256) :
    transpose S388x256 [1, 0] x transposes_S256x388_S388x256_1_0 (ix2 k o) = x (ix2 o k) := by pointwise
theorem tr5 (x : Vec Ideal S256x256 .f32) (k o : Fin 256) :
    transpose S256x256 [1, 0] x transposes_S256x256_S256x256_1_0 (ix2 k o) = x (ix2 o k) := by pointwise

abbrev a0 : Vec Ideal S16x3x4096 .f32 := m ((c : Thread nD τ).loc main_arg0)
abbrev a1 : Vec Ideal S16x3x1024 .f32 := m ((c : Thread nD τ).loc main_arg1)
abbrev a2 : Vec Ideal S16x128x4096 .f32 := m ((c : Thread nD τ).loc main_arg2)
abbrev a3 : Vec Ideal S16x256x1024 .f32 := m ((c : Thread nD τ).loc main_arg3)
abbrev a4 : Vec Ideal S16x1024x4 .f32 := m ((c : Thread nD τ).loc main_arg4)
abbrev a5 : Vec Ideal S256x388 .f32 := m ((c : Thread nD τ).loc main_arg5)
abbrev a6 : Vec Ideal S256 .f32 := m ((c : Thread nD τ).loc main_arg6)
abbrev a7 : Vec Ideal S256 .f32 := m ((c : Thread nD τ).loc main_arg7)
abbrev a8 : Vec Ideal S256 .f32 := m ((c : Thread nD τ).loc main_arg8)
abbrev a9 : Vec Ideal S256x256 .f32 := m ((c : Thread nD τ).loc main_arg9)
abbrev a10 : Vec Ideal S256 .f32 := m ((c : Thread nD τ).loc main_arg10)
abbrev a11 : Vec Ideal S256 .f32 := m ((c : Thread nD τ).loc main_arg11)
abbrev a12 : Vec Ideal S256 .f32 := m ((c : Thread nD τ).loc main_arg12)

theorem dRow_eq (b : Fin 16) (n : Fin 4096) : dRow (V1 m ρ c main_v0) (V1 m ρ c main_arg1) b n = dA (a0 m c) (a1 m c) b n := by
  rw [V1_v0, V1_arg1]
  exact funext fun j => congrArg (Spec.dist · _) (funext fun k => tr0 (a0 m c) b n k)

theorem gRow_eq (b : Fin 16) (n : Fin 4096) : gRow (V1 m ρ c main_v0) (V1 m ρ c main_v3) b n = gA (a0 m c) (a4 m c) b n := by
  rw [V1_v0, V1_v3]
  exact funext fun j => congrArg₂ Spec.dist (funext fun k => tr0 (a0 m c) b n k) (funext fun k => tr3 (a4 m c) b _ j)

theorem feature_congr {f f' : Fin 128 → EReal} {d d' : Fin 1024 → EReal} {P P' : Fin 1024 → Fin 256 → EReal}
    {g g' : Fin 1024 → EReal} {Q Q' : Fin 1024 → Fin 4 → EReal} (hf : f = f') (hd : d = d') (hP : P = P') (hg : g = g') (hQ : Q = Q')
    (k : Fin 388) : Spec.feature f d P g Q k = Spec.feature f' d' P' g' Q' k := by
  subst hf hd hP hg hQ
  rfl

/-- The first layer's products are the reference's weighted sums. -/
theorem col1 (o : Fin 256) : col (Y1 m ρ c) o = y1 (a0 m c) (a1 m c) (a2 m c) (a3 m c) (a4 m c) (a5 m c) (a6 m c) o := by
  funext p
  obtain ⟨b, n⟩ := p
  show lay1 _ _ _ _ _ _ _ _ (ix3 b n o) = _
  unfold lay1 y1 featA
  refine congrArg₂ (· + ·) (Finset.sum_congr rfl fun k _ => congrArg₂ (· * ·) ?_ ?_) ?_
  · exact feature_congr (funext fun j => (congrFun (V1_v1 m ρ c) (ix3 b n j)).trans (tr1 (a2 m c) b n j)) (dRow_eq m ρ c b n)
      (funext fun j => funext fun i => (congrFun (V1_v2 m ρ c) (ix3 b j i)).trans (tr2 (a3 m c) b j i)) (gRow_eq m ρ c b n)
      (funext fun j => funext fun i => congrFun (V1_arg4 m ρ c) (ix3 b j i)) k
  · rw [V1_v4]
    exact tr4 (a5 m c) k o
  · rw [V1_v6]
    exact chan_apply (a6 m c) 0 o

/-- The second layer's products are the reference's weighted sums, where the first layer's gains are finite. -/
theorem col2 (hg : ∀ o, a7 m c (ix1 o) ≠ (⊤ : EReal) ∧ a7 m c (ix1 o) ≠ (⊥ : EReal)) (o : Fin 256) :
    col (Y2 m ρ c) o = y2 (a0 m c) (a1 m c) (a2 m c) (a3 m c) (a4 m c) (a5 m c) (a6 m c) (a7 m c) (a8 m c) (a9 m c) (a10 m c) o := by
  funext p
  obtain ⟨b, n⟩ := p
  show lay2 _ _ _ _ _ (ix3 b n o) = _
  unfold lay2 y2 z1
  refine congrArg₂ (· + ·) (Finset.sum_congr rfl fun k _ => congrArg₂ (· * ·) (congrArg (max · 0) ?_) ?_) ?_
  · rw [← col1 m ρ c k]
    exact scaled (Y1 m ρ c) (a7 m c) (a8 m c) k (hg k).1 (hg k).2 b n
  · rw [V1_v5]
    exact tr5 (a9 m c) k o
  · rw [V1_v7]
    exact chan_apply (a10 m c) 0 o

/-- What the kernel leaves in its result, where the distances and the two layers' gains are finite. -/
theorem out_apply (hf : ∀ b n j, dA (a0 m c) (a1 m c) b n j < ⊤) (hg : ∀ o, a7 m c (ix1 o) ≠ (⊤ : EReal) ∧ a7 m c (ix1 o) ≠ (⊥ : EReal))
    (hg' : ∀ o, a11 m c (ix1 o) ≠ (⊤ : EReal) ∧ a11 m c (ix1 o) ≠ (⊥ : EReal)) (b : Fin 16) (o : Fin 256) (n : Fin 4096) :
    (W10 m ρ c (Proc.devRef .tc main_v22) : Vec Ideal S16x256x4096 .f32) (ix3 b o n)
      = z2 (a0 m c) (a1 m c) (a2 m c) (a3 m c) (a4 m c) (a5 m c) (a6 m c) (a7 m c) (a8 m c) (a9 m c) (a10 m c) (a11 m c) (a12 m c) o (b, n) := by
  refine (congrFun (W10_out m ρ c fun b n j => by rw [dRow_eq]; exact hf b n j) (ix3 b o n)).trans ?_
  unfold outT z2
  refine congrArg (fun x : EReal => max x 0) ?_
  rw [← col2 m ρ c hg o]
  exact scaled (Y2 m ρ c) (a11 m c) (a12 m c) o (hg' o).1 (hg' o).2 b n

/-- The kernel's result is the reference's. -/
theorem out_eq (hf : ∀ b n j, dA (a0 m c) (a1 m c) b n j < ⊤) (hg : ∀ o, a7 m c (ix1 o) ≠ (⊤ : EReal) ∧ a7 m c (ix1 o) ≠ (⊥ : EReal))
    (hg' : ∀ o, a11 m c (ix1 o) ≠ (⊤ : EReal) ∧ a11 m c (ix1 o) ≠ (⊥ : EReal)) :
    (W10 m ρ c (Proc.devRef .tc main_v22) : Vec Ideal S16x256x4096 .f32)
      = Cert.ReferenceIdeal.Read.val_main_v112 (F := Ideal) (a0 m c) (a1 m c) (a2 m c) (a3 m c) (a4 m c) (a5 m c) (a6 m c) (a7 m c)
          (a8 m c) (a9 m c) (a10 m c) (a11 m c) (a12 m c) := by
  funext i
  suffices h : ∀ (b : Fin 16) (o : Fin 256) (n : Fin 4096),
      (W10 m ρ c (Proc.devRef .tc main_v22) : Vec Ideal S16x256x4096 .f32) (ix3 b o n)
        = Cert.ReferenceIdeal.Read.val_main_v112 (F := Ideal) (a0 m c) (a1 m c) (a2 m c) (a3 m c) (a4 m c) (a5 m c) (a6 m c) (a7 m c)
          (a8 m c) (a9 m c) (a10 m c) (a11 m c) (a12 m c) (ix3 b o n) from (eq_ix3 i) ▸ h _ _ _
  intro b o n
  exact (out_apply m ρ c hf hg hg' b o n).trans (v112_apply _ _ _ _ _ _ _ _ _ _ _ _ _ hf b o n).symm

end Cert.KernelIdeal.KVal

end
-- ==== Proof.Finite.lean ====
/-
  What the precondition says: the two clouds' coordinates and the two layers' gains are finite numbers; then every distance
  between points of the two clouds is finite.
-/
module

public import proofs.«01_k».proof.Pre_finite
public import proofs.«01_k».proof.Proof.Spec
public import Idealize.ShloMosaic.Lib.Pointwise
public import Idealize.ShloMosaic.Lib.ReduceAll

@[expose] public section

set_option maxRecDepth 16384

noncomputable section

namespace Cert.Pre_finite

open Idealize.ShloMosaic

/-- The precondition's shape relations hold. -/
theorem facts : Facts where
  bcast_S_S16x3x4096 := by decide
  reducesTo_S16x3x4096_S_d0_1_2 := by decide
  h_S_ := by decide
  bcast_S_S16x3x1024 := by decide
  reducesTo_S16x3x1024_S_d0_1_2 := by decide
  bcast_S_S256 := by decide
  reducesTo_S256_S_d0 := by decide

/-- A finite extended real. -/
def Fin' (x : EReal) : Prop := x ≠ ⊤ ∧ x ≠ ⊥

/-- Two bits' conjunction is one only when both are. -/
theorem and_one : ∀ a b : BitVec 1, IntOp.andi a b = 1#1 → a = 1#1 ∧ b = 1#1 := by decide

/-- An absolute value below infinity is a finite number's. -/
theorem fin_of_abs (x : EReal) (h : max x (-x) < ⊤) : Fin' x := by
  constructor
  · rintro rfl
    simp at h
  · rintro rfl
    simp at h

instance : Subsingleton S_.Idx := ⟨fun a b => funext fun k => k.elim0⟩

/-- An array whose every absolute value compares below infinity is finite. -/
theorem fin_all {S : Shape} {axes : List (Fin S.rank)} (x : FVec Ideal S .f32) (hb : S_.BroadcastsInDim S (![] : Fin 0 → Fin S.rank)) (hr : S.ReducesTo axes S_)
    (hu : 0 < S_.numel) (j : S_.Idx)
    (e : Host.reduce IntOp.andi (cmpf .olt (Host.absf x) (broadcastInDim S ![] hb (constant S_ .f32 0x7F800000#32)))
      (constantI S_ 1 1#1) hr hu j = 1#1) (i : S.Idx) : Fin' (x i) := by
  have h := Host.reduce_andi_all _ _ hr hu j e i
  apply fin_of_abs
  have h' : Ideal.cmp .olt (max (x i : EReal) (-(x i : EReal))) (Ideal.ofBits .f32 0x7F800000#32) = 1 := h
  rw [Ideal.cmp_olt_eq_one] at h'
  refine lt_of_lt_of_le h' le_top

section
variable [Facts]

/-- The precondition makes the clouds and the gains finite. -/
theorem finite_of (x0 : FVec Ideal S16x3x4096 .f32) (x1 : FVec Ideal S16x3x1024 .f32) (x2 : FVec Ideal S16x128x4096 .f32)
    (x3 : FVec Ideal S16x256x1024 .f32) (x4 : FVec Ideal S16x1024x4 .f32) (x5 : FVec Ideal S256x388 .f32) (x6 x7 x8 : FVec Ideal S256 .f32)
    (x9 : FVec Ideal S256x256 .f32) (x10 x11 x12 : FVec Ideal S256 .f32)
    (h : fn (F := Ideal) x0 x1 x2 x3 x4 x5 x6 x7 x8 x9 x10 x11 x12 = fun _ => 1#1) :
    (∀ i, Fin' (x0 i)) ∧ (∀ i, Fin' (x1 i)) ∧ (∀ i, Fin' (x7 i)) ∧ (∀ i, Fin' (x11 i)) := by
  let j : S_.Idx := fun k => k.elim0
  have h1 := congrFun h j
  unfold fn fn_part1 at h1
  obtain ⟨h2, h11⟩ := and_one _ _ h1
  obtain ⟨h3, h7⟩ := and_one _ _ h2
  obtain ⟨h0, h1⟩ := and_one _ _ h3
  exact ⟨fin_all x0 _ _ _ j h0, fin_all x1 _ _ _ j h1, fin_all x7 _ _ _ j h7, fin_all x11 _ _ _ j h11⟩

end

/-- The constant minus two. -/
theorem two_eq : Ideal.ofBits .f32 0xC0000000#32 = ((-2 : ℝ) : EReal) := by
  simp [Ideal.ofBits, Ideal.ieee]
  rw [← EReal.coe_mul]
  norm_num

/-- A finite number is a real. -/
theorem coe_of (x : EReal) (h : Fin' x) : ∃ r : ℝ, x = (r : EReal) := ⟨x.toReal, (EReal.coe_toReal h.1 h.2).symm⟩

/-- The distance between two finite points is finite. -/
theorem dist_lt (p q : Spec.Pt) (hp : ∀ c, Fin' (p c)) (hq : ∀ c, Fin' (q c)) : Spec.dist p q < ⊤ := by
  choose P hP using fun c => coe_of (p c) (hp c)
  choose Q hQ using fun c => coe_of (q c) (hq c)
  have e : Spec.dist p q = (((-2 * (∑ c, P c * Q c) + ∑ c, P c * P c) + ∑ c, Q c * Q c : ℝ) : EReal) := by
    unfold Spec.dist
    rw [two_eq]
    simp only [hP, hQ, Fin.sum_univ_three]
    norm_cast
  rw [e]
  exact EReal.coe_lt_top _

end Cert.Pre_finite

end
-- ==== Proof.lean ====
/-
  The claims about the kernel and its reference, assembled: each program runs, leaves its arguments unchanged and its semaphores
  at zero; the ideal kernel is the kernel read over the extended reals; over them, for finite coordinates and gains, the kernel
  and the reference end with the same array.
-/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KerVal
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.StableHlo Idealize.SL.Sem
open Cert.KernelIdeal.KChain Cert.KernelIdeal.KVal

/-- The reference runs, leaves its arguments unchanged and every semaphore at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel's result is what the reference computes of the same arguments. -/
theorem kernel_value (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite (hPre_finite := Cert.Pre_finite.facts) m)
    (c : Dev Cert.KernelIdeal.nD) :
    (Cert.KernelIdeal.Gen.W10 m ρ c (Proc.devRef .tc Cert.KernelIdeal.main_v22) : Vec Ideal Cert.KernelIdeal.S16x256x4096 .f32)
      = Cert.ReferenceIdeal.Read.val_main_v112 (F := Ideal) (a0 m c) (a1 m c) (a2 m c) (a3 m c) (a4 m c) (a5 m c) (a6 m c) (a7 m c)
          (a8 m c) (a9 m c) (a10 m c) (a11 m c) (a12 m c) := by
  obtain ⟨h0, h1, h7, h11⟩ := @Cert.Pre_finite.finite_of Cert.Pre_finite.facts _ _ _ _ _ _ _ _ _ _ _ _ _ (h c)
  exact out_eq m ρ c (fun b n j => Cert.Pre_finite.dist_lt _ _ (fun k => h0 (ix3 b k n)) (fun k => h1 (ix3 b k j)))
    (fun o => h7 (ix1 o)) (fun o => h11 (ix1 o))

/-- The reference's function takes equal arguments to equal results. -/
theorem value_congr {x0 y0 : Vec Ideal Cert.ReferenceIdeal.S16x3x4096 .f32} {x1 y1 : Vec Ideal Cert.ReferenceIdeal.S16x3x1024 .f32} {x2 y2 : Vec Ideal Cert.ReferenceIdeal.S16x128x4096 .f32} {x3 y3 : Vec Ideal Cert.ReferenceIdeal.S16x256x1024 .f32}
    {x4 y4 : Vec Ideal Cert.ReferenceIdeal.S16x1024x4 .f32} {x5 y5 : Vec Ideal Cert.ReferenceIdeal.S256x388 .f32} {x6 y6 : Vec Ideal Cert.ReferenceIdeal.S256 .f32} {x7 y7 : Vec Ideal Cert.ReferenceIdeal.S256 .f32}
    {x8 y8 : Vec Ideal Cert.ReferenceIdeal.S256 .f32} {x9 y9 : Vec Ideal Cert.ReferenceIdeal.S256x256 .f32} {x10 y10 : Vec Ideal Cert.ReferenceIdeal.S256 .f32} {x11 y11 : Vec Ideal Cert.ReferenceIdeal.S256 .f32} {x12 y12 : Vec Ideal Cert.ReferenceIdeal.S256 .f32}
    (h0 : x0 = y0) (h1 : x1 = y1) (h2 : x2 = y2) (h3 : x3 = y3) (h4 : x4 = y4) (h5 : x5 = y5) (h6 : x6 = y6)
    (h7 : x7 = y7) (h8 : x8 = y8) (h9 : x9 = y9) (h10 : x10 = y10) (h11 : x11 = y11) (h12 : x12 = y12) :
    Cert.ReferenceIdeal.Read.val_main_v112 (F := Ideal) x0 x1 x2 x3 x4 x5 x6 x7 x8 x9 x10 x11 x12
      = Cert.ReferenceIdeal.Read.val_main_v112 (F := Ideal) y0 y1 y2 y3 y4 y5 y6 y7 y8 y9 y10 y11 y12 := by
  subst h0 h1 h2 h3 h4 h5 h6 h7 h8 h9 h10 h11 h12
  rfl

/-- From agreeing finite arguments the kernel and the reference end with the same array. -/
theorem value_eq : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  refine ⟨fun c => Cert.KernelIdeal.Gen.W10 m g c (Proc.devRef .tc Cert.KernelIdeal.main_v22), Cert.KernelIdeal.KRun.run m g, ?_⟩
  refine (θ_run Cert.ReferenceIdeal.defs _ _).mono (fun r h c => ⟨?_, (h c).2⟩) (Cert.ReferenceIdeal.Value.run (F := Ideal) m' g')
  obtain ⟨e0, e1, e2, e3, e4, e5, e6, e7, e8, e9, e10, e11, e12⟩ := hag c
  refine (h c).1.trans ((Cert.ReferenceIdeal.Read.val_main_v112_eq (launchContents m' c)).trans ?_)
  exact (value_congr e0 e1 e2 e3 e4 e5 e6 e7 e8 e9 e10 e11 e12).trans (kernel_value m g hpre c).symm

/-- Every claim. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value_eq⟩

end Cert.Proof

end
